-- ==== Defs.lean ====
def Pre_Kernel [hPre_offsets : Cert.Pre_offsets.Facts] (m : (ℓ : Loc Cert.Kernel.nD Cert.Kernel.τ Cert.Kernel.sig) → Buf (Elt Bits) ℓ) : Prop :=
  ∀ c : Dev Cert.Kernel.nD,
    (Cert.Pre_offsets.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_offsets : Cert.Pre_offsets.Facts] (m : (ℓ : Loc Cert.KernelIdeal.nD Cert.KernelIdeal.τ Cert.KernelIdeal.sig) → Buf (Elt Ideal) ℓ) : Prop :=
  ∀ c : Dev Cert.KernelIdeal.nD,
    (Cert.Pre_offsets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_offsets : Cert.Pre_offsets.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_offsets : Cert.Pre_offsets.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_offsets : Cert.Pre_offsets.Facts) (hPre_pre : Cert.Pre_pre.Facts),
    quiescent_Kernel (hKernel := hKernel) (hPre_offsets := hPre_offsets)
    ∧ quiescent_KernelIdeal (hKernelIdeal := hKernelIdeal) (hPre_offsets := hPre_offsets)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_offsets.lean ====
abbrev S16384x1024 : Shape := ⟨2, ![16384, 1024]⟩
abbrev S17 : Shape := ⟨1, ![17]⟩
abbrev S500x1024 : Shape := ⟨2, ![500, 1024]⟩
abbrev S500 : Shape := ⟨1, ![500]⟩
abbrev S500x500 : Shape := ⟨2, ![500, 500]⟩
abbrev S_ : Shape := ⟨0, ![]⟩

class Facts : Prop where
  bcast_S_S17 : S_.BroadcastsInDim S17 (![] : Fin 0 → Fin S17.rank)
  reducesTo_S17_S_d0 : S17.ReducesTo [0] S_
  h_S_ : 0 < S_.numel

variable [Facts]

def fn {F : FTy → Type} [FloatOps F] (main_arg0 : FVec F S16384x1024 .f32) (main_arg1 : IVec S17 32) (main_arg2 : FVec F S500x1024 .f32) (main_arg3 : FVec F S500 .f32) (main_arg4 : FVec F S500x500 .f32) (main_arg5 : FVec F S500 .f32) : IVec S_ 1 :=
  let main_c : IVec S_ 32 := constantI S_ 32 0#32
  let main_v0 : IVec S17 32 := broadcastInDim S17 ![] bcast_S_S17 main_c
  let main_v1 : IVec S17 1 := cmpi .sge main_arg1 main_v0
  let main_c_0 : IVec S_ 1 := constantI S_ 1 1#1
  let main_v2 : IVec S_ 1 := (fun x v => Host.reduce IntOp.andi x v reducesTo_S17_S_d0 h_S_) main_v1 main_c_0
  main_v2
-- ==== Pre_pre.lean ====
abbrev S16384x1024 : Shape := ⟨2, ![16384, 1024]⟩
abbrev S17 : Shape := ⟨1, ![17]⟩
abbrev S500x1024 : Shape := ⟨2, ![500, 1024]⟩
abbrev S500 : Shape := ⟨1, ![500]⟩
abbrev S500x500 : Shape := ⟨2, ![500, 500]⟩
abbrev S_ : Shape := ⟨0, ![]⟩
abbrev S16 : Shape := ⟨1, ![16]⟩

class Facts : Prop where
  bcast_S_S17 : S_.BroadcastsInDim S17 (![] : Fin 0 → Fin S17.rank)
  reducesTo_S17_S_d0 : S17.ReducesTo [0] S_
  h_S_ : 0 < S_.numel
  slices_S17_S16_0 : S17.Slices ![0] S16
  slices_S17_S16_1 : S17.Slices ![1] S16
  reducesTo_S16_S_d0 : S16.ReducesTo [0] S_
  bcast_S_S500 : S_.BroadcastsInDim S500 (![] : Fin 0 → Fin S500.rank)
  reducesTo_S500_S_d0 : S500.ReducesTo [0] S_

variable [Facts]

def fn {F : FTy → Type} [FloatOps F] (main_arg0 : FVec F S16384x1024 .f32) (main_arg1 : IVec S17 32) (main_arg2 : FVec F S500x1024 .f32) (main_arg3 : FVec F S500 .f32) (main_arg4 : FVec F S500x500 .f32) (main_arg5 : FVec F S500 .f32) : IVec S_ 1 :=
  let main_c : IVec S_ 32 := constantI S_ 32 0#32
  let main_v0 : IVec S17 32 := broadcastInDim S17 ![] bcast_S_S17 main_c
  let main_v1 : IVec S17 1 := cmpi .sge main_arg1 main_v0
  let main_c_0 : IVec S_ 1 := constantI S_ 1 1#1
  let main_v2 : IVec S_ 1 := (fun x v => Host.reduce IntOp.andi x v reducesTo_S17_S_d0 h_S_) main_v1 main_c_0
  let main_v3 : IVec S16 32 := (extractStridedSlice S16 ![0] · slices_S17_S16_0) main_arg1
  let main_v4 : IVec S16 32 := (extractStridedSlice S16 ![1] · slices_S17_S16_1) main_arg1
  let main_v5 : IVec S16 1 := cmpi .sle main_v3 main_v4
  let main_c_1 : IVec S_ 1 := constantI S_ 1 1#1
  let main_v6 : IVec S_ 1 := (fun x v => Host.reduce IntOp.andi x v reducesTo_S16_S_d0 h_S_) main_v5 main_c_1
  let main_v7 : IVec S_ 1 := andi main_v2 main_v6
  let main_cst : FVec F S_ .f32 := constant S_ .f32 0x00000000#32
  let main_v8 : FVec F S500 .f32 := broadcastInDim S500 ![] bcast_S_S500 main_cst
  let main_v9 : IVec S500 1 := cmpf .oeq main_arg3 main_v8
  let main_c_2 : IVec S_ 1 := constantI S_ 1 1#1
  let main_v10 : IVec S_ 1 := (fun x v => Host.reduce IntOp.andi x v reducesTo_S500_S_d0 h_S_) main_v9 main_c_2
  let main_v11 : IVec S_ 1 := andi main_v7 main_v10
  let main_cst_3 : FVec F S_ .f32 := constant S_ .f32 0x00000000#32
  let main_v12 : FVec F S500 .f32 := broadcastInDim S500 ![] bcast_S_S500 main_cst_3
  let main_v13 : IVec S500 1 := cmpf .oeq main_arg5 main_v12
  let main_c_4 : IVec S_ 1 := constantI S_ 1 1#1
  let main_v14 : IVec S_ 1 := (fun x v => Host.reduce IntOp.andi x v reducesTo_S500_S_d0 h_S_) main_v13 main_c_4
  let main_v15 : IVec S_ 1 := andi main_v11 main_v14
  main_v15
-- ==== Kernel.lean ====
abbrev S16384x1024 : Shape := ⟨2, ![16384, 1024]⟩
abbrev S17 : Shape := ⟨1, ![17]⟩
abbrev S500x1024 : Shape := ⟨2, ![500, 1024]⟩
abbrev S500 : Shape := ⟨1, ![500]⟩
abbrev S500x500 : Shape := ⟨2, ![500, 500]⟩
abbrev S16x512 : Shape := ⟨2, ![16, 512]⟩
abbrev S16x500 : Shape := ⟨2, ![16, 500]⟩
abbrev S1024x1024 : Shape := ⟨2, ![1024, 1024]⟩
abbrev S1024x512 : Shape := ⟨2, ![1024, 512]⟩
abbrev S512x512 : Shape := ⟨2, ![512, 512]⟩
abbrev S1024x500 : Shape := ⟨2, ![1024, 500]⟩
abbrev S1024x12 : Shape := ⟨2, ![1024, 12]⟩
abbrev S12x500 : Shape := ⟨2, ![12, 500]⟩
abbrev S512x500 : Shape := ⟨2, ![512, 500]⟩
abbrev S512x12 : Shape := ⟨2, ![512, 12]⟩
abbrev S128x8x512 : Shape := ⟨3, ![128, 8, 512]⟩
abbrev S128x512 : Shape := ⟨2, ![128, 512]⟩
abbrev S128x1 : Shape := ⟨2, ![128, 1]⟩
abbrev S8x1 : Shape := ⟨2, ![8, 1]⟩
abbrev S1 : Shape := ⟨1, ![1]⟩
abbrev S512 : Shape := ⟨1, ![512]⟩
abbrev S8x512 : Shape := ⟨2, ![8, 512]⟩
abbrev S1x512 : Shape := ⟨2, ![1, 512]⟩

abbrev nBuf : Space → Nat
  | .hbm => 7
  | .vmem => 8
  | .smem => 1
  | _ => 0

abbrev bufTy : (tb : Table) → Fin (tcTables nBuf tb) → BufTy
  | .hbm, ⟨0, _⟩ => ⟨S16384x1024, .f32⟩
  | .hbm, ⟨1, _⟩ => ⟨S500x1024, .f32⟩
  | .hbm, ⟨2, _⟩ => ⟨S500, .f32⟩
  | .hbm, ⟨3, _⟩ => ⟨S500x500, .f32⟩
  | .hbm, ⟨4, _⟩ => ⟨S500, .f32⟩
  | .hbm, ⟨5, _⟩ => ⟨S16x512, .f32⟩
  | .hbm, ⟨6, _⟩ => ⟨S16x500, .f32⟩
  | .local _ .vmem, ⟨0, _⟩ => ⟨S1024x1024, .f32⟩
  | .local _ .vmem, ⟨1, _⟩ => ⟨S1024x1024, .f32⟩
  | .local _ .vmem, ⟨2, _⟩ => ⟨S500x1024, .f32⟩
  | .local _ .vmem, ⟨3, _⟩ => ⟨S500x500, .f32⟩
  | .local _ .vmem, ⟨4, _⟩ => ⟨S16x512, .f32⟩
  | .local _ .vmem, ⟨5, _⟩ => ⟨S1024x512, .bf16⟩
  | .local _ .vmem, ⟨6, _⟩ => ⟨S512x512, .bf16⟩
  | .local _ .vmem, ⟨7, _⟩ => ⟨S1024x512, .f32⟩
  | .local _ .smem, ⟨0, _⟩ => ⟨S17, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_call0_v0 : Ref sig .tc := ⟨.hbm, 5, rfl⟩
abbrev main_v0 : Ref sig .tc := ⟨.hbm, 6, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (v22 : BitVec 32) : Fin 2 → Nat :=
  let c1024_i32_60 : BitVec 32 := 1024#32
  let c0_i32_59 : BitVec 32 := 0#32
  let arg0 : BitVec 32 := BitVec.ofNat 32 (i 0).val
  let c1024_i32 : BitVec 32 := 1024#32
  let v17 : BitVec 32 := Scalar.muli arg0 c1024_i32
  let v150 : BitVec 32 := Scalar.subi v22 v17
  let v151 : BitVec 32 := Scalar.maxsi c0_i32_59 v150
  let v152 : BitVec 32 := Scalar.minsi c1024_i32_60 v151
  let c0_i32_67 : BitVec 32 := 0#32
  let v169 : BitVec 1 := Scalar.cmpi .sgt v152 c0_i32_67
  let v170 : BitVec 32 := Scalar.extui v169
  let c0_i32_68 : BitVec 32 := 0#32
  let v171 : BitVec 1 := Scalar.cmpi .slt v152 c0_i32_68
  let v172 : BitVec 32 := Scalar.extui v171
  let v173 : BitVec 32 := Scalar.subi v170 v172
  let c8_i32_66 : BitVec 32 := 8#32
  let c0_i32_69 : BitVec 32 := 0#32
  let v174 : BitVec 1 := Scalar.cmpi .sgt c8_i32_66 c0_i32_69
  let v175 : BitVec 32 := Scalar.extui v174
  let c0_i32_70 : BitVec 32 := 0#32
  let v176 : BitVec 1 := Scalar.cmpi .slt c8_i32_66 c0_i32_70
  let v177 : BitVec 32 := Scalar.extui v176
  let v178 : BitVec 32 := Scalar.subi v175 v177
  let v179 : BitVec 1 := Scalar.cmpi .ne v173 v178
  let v180 : BitVec 32 := Scalar.remsi v152 c8_i32_66
  let c0_i32_71 : BitVec 32 := 0#32
  let v181 : BitVec 1 := Scalar.cmpi .ne v180 c0_i32_71
  let v182 : BitVec 1 := Scalar.andi v179 v181
  let v168 : BitVec 32 := Scalar.divsi v152 c8_i32_66
  let c1_i32 : BitVec 32 := 1#32
  let v183 : BitVec 32 := Scalar.subi v168 c1_i32
  let v184 : BitVec 32 := Scalar.select v182 v183 v168
  let c8_i32_80 : BitVec 32 := 8#32
  let v203 : BitVec 32 := Scalar.muli v184 c8_i32_80
  let v204 : Index := Scalar.indexCast v203
  let c0_81 : Index := 0#32
  ![v204.toNat, 0]
def k0_cond2 (i : grid0.Coords) (v22 : BitVec 32) (v23 : BitVec 32) : BitVec 1 :=
  let arg0 : BitVec 32 := BitVec.ofNat 32 (i 0).val
  let c1024_i32 : BitVec 32 := 1024#32
  let v17 : BitVec 32 := Scalar.muli arg0 c1024_i32
  let v24 : BitVec 1 := Scalar.cmpi .sgt v23 v17
  let c1024_i32_12 : BitVec 32 := 1024#32
  let v25 : BitVec 32 := Scalar.addi v17 c1024_i32_12
  let v26 : BitVec 1 := Scalar.cmpi .slt v22 v25
  let v27 : BitVec 1 := Scalar.andi v24 v26
  let v28 : BitVec 32 := Scalar.extui v27
  let c0_i32_13 : BitVec 32 := 0#32
  let v29 : BitVec 1 := Scalar.cmpi .ne v28 c0_i32_13
  v29

def k0_off2 (i : grid0.Coords) (v23 : BitVec 32) : Fin 2 → Nat :=
  let c1024_i32_62 : BitVec 32 := 1024#32
  let c0_i32_61 : BitVec 32 := 0#32
  let arg0 : BitVec 32 := BitVec.ofNat 32 (i 0).val
  let c1024_i32 : BitVec 32 := 1024#32
  let v17 : BitVec 32 := Scalar.muli arg0 c1024_i32
  let v153 : BitVec 32 := Scalar.subi v23 v17
  let v154 : BitVec 32 := Scalar.maxsi c0_i32_61 v153
  let v155 : BitVec 32 := Scalar.minsi c1024_i32_62 v154
  let c1_i32_72 : BitVec 32 := 1#32
  let v185 : BitVec 32 := Scalar.subi v155 c1_i32_72
  let c0_i32_74 : BitVec 32 := 0#32
  let v187 : BitVec 1 := Scalar.cmpi .sgt v185 c0_i32_74
  let v188 : BitVec 32 := Scalar.extui v187
  let c0_i32_75 : BitVec 32 := 0#32
  let v189 : BitVec 1 := Scalar.cmpi .slt v185 c0_i32_75
  let v190 : BitVec 32 := Scalar.extui v189
  let v191 : BitVec 32 := Scalar.subi v188 v190
  let c8_i32_73 : BitVec 32 := 8#32
  let c0_i32_76 : BitVec 32 := 0#32
  let v192 : BitVec 1 := Scalar.cmpi .sgt c8_i32_73 c0_i32_76
  let v193 : BitVec 32 := Scalar.extui v192
  let c0_i32_77 : BitVec 32 := 0#32
  let v194 : BitVec 1 := Scalar.cmpi .slt c8_i32_73 c0_i32_77
  let v195 : BitVec 32 := Scalar.extui v194
  let v196 : BitVec 32 := Scalar.subi v193 v195
  let v197 : BitVec 1 := Scalar.cmpi .ne v191 v196
  let v198 : BitVec 32 := Scalar.remsi v185 c8_i32_73
  let c0_i32_78 : BitVec 32 := 0#32
  let v199 : BitVec 1 := Scalar.cmpi .ne v198 c0_i32_78
  let v200 : BitVec 1 := Scalar.andi v197 v199
  let v186 : BitVec 32 := Scalar.divsi v185 c8_i32_73
  let c1_i32_79 : BitVec 32 := 1#32
  let v201 : BitVec 32 := Scalar.subi v186 c1_i32_79
  let v202 : BitVec 32 := Scalar.select v200 v201 v186
  let c8_i32_86 : BitVec 32 := 8#32
  let v223 : BitVec 32 := Scalar.muli v202 c8_i32_86
  let v224 : Index := Scalar.indexCast v223
  let c0_87 : Index := 0#32
  ![v224.toNat, 0]

def k0_chk1 (i : grid0.Coords) (v22 : BitVec 32) (v23 : BitVec 32) : Prop :=
  (∀ (k0_h2 : k0_cond2 i v22 v23 = 1#1), ∀ a, (k0_off1 i v22) a + S8x512.size a ≤ S1024x512.size a) ∧
  (∀ (k0_h2 : k0_cond2 i v22 v23 = 1#1), ∀ a, (k0_off2 i v23) a + S8x512.size a ≤ S1024x512.size a)
theorem k0_off1_inb : ∀ (i : grid0.Coords) (v22 : BitVec 32) (v23 : BitVec 32) (k0_hw1 : k0_chk1 i v22 v23), ∀ (k0_h2 : k0_cond2 i v22 v23 = 1#1), ∀ a, (k0_off1 i v22) a + S8x512.size a ≤ S1024x512.size a := fun i v22 v23 k0_hw1 k0_h2 => k0_hw1.1 k0_h2
theorem k0_off2_inb : ∀ (i : grid0.Coords) (v22 : BitVec 32) (v23 : BitVec 32) (k0_hw1 : k0_chk1 i v22 v23), ∀ (k0_h2 : k0_cond2 i v22 v23 = 1#1), ∀ a, (k0_off2 i v23) a + S8x512.size a ≤ S1024x512.size a := fun i v22 v23 k0_hw1 k0_h2 => k0_hw1.2 k0_h2

def k0_off3 (i : grid0.Coords) (v30 : BitVec 32) : Fin 2 → Nat :=
  let c1024_i32_60 : BitVec 32 := 1024#32
  let c0_i32_59 : BitVec 32 := 0#32
  let arg0 : BitVec 32 := BitVec.ofNat 32 (i 0).val
  let c1024_i32 : BitVec 32 := 1024#32
  let v17 : BitVec 32 := Scalar.muli arg0 c1024_i32
  let v150 : BitVec 32 := Scalar.subi v30 v17
  let v151 : BitVec 32 := Scalar.maxsi c0_i32_59 v150
  let v152 : BitVec 32 := Scalar.minsi c1024_i32_60 v151
  let c0_i32_67 : BitVec 32 := 0#32
  let v169 : BitVec 1 := Scalar.cmpi .sgt v152 c0_i32_67
  let v170 : BitVec 32 := Scalar.extui v169
  let c0_i32_68 : BitVec 32 := 0#32
  let v171 : BitVec 1 := Scalar.cmpi .slt v152 c0_i32_68
  let v172 : BitVec 32 := Scalar.extui v171
  let v173 : BitVec 32 := Scalar.subi v170 v172
  let c8_i32_66 : BitVec 32 := 8#32
  let c0_i32_69 : BitVec 32 := 0#32
  let v174 : BitVec 1 := Scalar.cmpi .sgt c8_i32_66 c0_i32_69
  let v175 : BitVec 32 := Scalar.extui v174
  let c0_i32_70 : BitVec 32 := 0#32
  let v176 : BitVec 1 := Scalar.cmpi .slt c8_i32_66 c0_i32_70
  let v177 : BitVec 32 := Scalar.extui v176
  let v178 : BitVec 32 := Scalar.subi v175 v177
  let v179 : BitVec 1 := Scalar.cmpi .ne v173 v178
  let v180 : BitVec 32 := Scalar.remsi v152 c8_i32_66
  let c0_i32_71 : BitVec 32 := 0#32
  let v181 : BitVec 1 := Scalar.cmpi .ne v180 c0_i32_71
  let v182 : BitVec 1 := Scalar.andi v179 v181
  let v168 : BitVec 32 := Scalar.divsi v152 c8_i32_66
  let c1_i32 : BitVec 32 := 1#32
  let v183 : BitVec 32 := Scalar.subi v168 c1_i32
  let v184 : BitVec 32 := Scalar.select v182 v183 v168
  let c8_i32_80 : BitVec 32 := 8#32
  let v203 : BitVec 32 := Scalar.muli v184 c8_i32_80
  let v204 : Index := Scalar.indexCast v203
  let c0_81 : Index := 0#32
  ![v204.toNat, 0]
def k0_cond3 (i : grid0.Coords) (v30 : BitVec 32) (v31 : BitVec 32) : BitVec 1 :=
  let arg0 : BitVec 32 := BitVec.ofNat 32 (i 0).val
  let c1024_i32 : BitVec 32 := 1024#32
  let v17 : BitVec 32 := Scalar.muli arg0 c1024_i32
  let v32 : BitVec 1 := Scalar.cmpi .sgt v31 v17
  let c1024_i32_15 : BitVec 32 := 1024#32
  let v33 : BitVec 32 := Scalar.addi v17 c1024_i32_15
  let v34 : BitVec 1 := Scalar.cmpi .slt v30 v33
  let v35 : BitVec 1 := Scalar.andi v32 v34
  let v36 : BitVec 32 := Scalar.extui v35
  let c0_i32_16 : BitVec 32 := 0#32
  let v37 : BitVec 1 := Scalar.cmpi .ne v36 c0_i32_16
  v37

def k0_off4 (i : grid0.Coords) (v31 : BitVec 32) : Fin 2 → Nat :=
  let c1024_i32_62 : BitVec 32 := 1024#32
  let c0_i32_61 : BitVec 32 := 0#32
  let arg0 : BitVec 32 := BitVec.ofNat 32 (i 0).val
  let c1024_i32 : BitVec 32 := 1024#32
  let v17 : BitVec 32 := Scalar.muli arg0 c1024_i32
  let v153 : BitVec 32 := Scalar.subi v31 v17
  let v154 : BitVec 32 := Scalar.maxsi c0_i32_61 v153
  let v155 : BitVec 32 := Scalar.minsi c1024_i32_62 v154
  let c1_i32_72 : BitVec 32 := 1#32
  let v185 : BitVec 32 := Scalar.subi v155 c1_i32_72
  let c0_i32_74 : BitVec 32 := 0#32
  let v187 : BitVec 1 := Scalar.cmpi .sgt v185 c0_i32_74
  let v188 : BitVec 32 := Scalar.extui v187
  let c0_i32_75 : BitVec 32 := 0#32
  let v189 : BitVec 1 := Scalar.cmpi .slt v185 c0_i32_75
  let v190 : BitVec 32 := Scalar.extui v189
  let v191 : BitVec 32 := Scalar.subi v188 v190
  let c8_i32_73 : BitVec 32 := 8#32
  let c0_i32_76 : BitVec 32 := 0#32
  let v192 : BitVec 1 := Scalar.cmpi .sgt c8_i32_73 c0_i32_76
  let v193 : BitVec 32 := Scalar.extui v192
  let c0_i32_77 : BitVec 32 := 0#32
  let v194 : BitVec 1 := Scalar.cmpi .slt c8_i32_73 c0_i32_77
  let v195 : BitVec 32 := Scalar.extui v194
  let v196 : BitVec 32 := Scalar.subi v193 v195
  let v197 : BitVec 1 := Scalar.cmpi .ne v191 v196
  let v198 : BitVec 32 := Scalar.remsi v185 c8_i32_73
  let c0_i32_78 : BitVec 32 := 0#32
  let v199 : BitVec 1 := Scalar.cmpi .ne v198 c0_i32_78
  let v200 : BitVec 1 := Scalar.andi v197 v199
  let v186 : BitVec 32 := Scalar.divsi v185 c8_i32_73
  let c1_i32_79 : BitVec 32 := 1#32
  let v201 : BitVec 32 := Scalar.subi v186 c1_i32_79
  let v202 : BitVec 32 := Scalar.select v200 v201 v186
  let c8_i32_86 : BitVec 32 := 8#32
  let v223 : BitVec 32 := Scalar.muli v202 c8_i32_86
  let v224 : Index := Scalar.indexCast v223
  let c0_87 : Index := 0#32
  ![v224.toNat, 0]

def k0_chk2 (i : grid0.Coords) (v30 : BitVec 32) (v31 : BitVec 32) : Prop :=
  (∀ (k0_h3 : k0_cond3 i v30 v31 = 1#1), ∀ a, (k0_off3 i v30) a + S8x512.size a ≤ S1024x512.size a) ∧
  (∀ (k0_h3 : k0_cond3 i v30 v31 = 1#1), ∀ a, (k0_off4 i v31) a + S8x512.size a ≤ S1024x512.size a)
theorem k0_off3_inb : ∀ (i : grid0.Coords) (v30 : BitVec 32) (v31 : BitVec 32) (k0_hw2 : k0_chk2 i v30 v31), ∀ (k0_h3 : k0_cond3 i v30 v31 = 1#1), ∀ a, (k0_off3 i v30) a + S8x512.size a ≤ S1024x512.size a := fun i v30 v31 k0_hw2 k0_h3 => k0_hw2.1 k0_h3
theorem k0_off4_inb : ∀ (i : grid0.Coords) (v30 : BitVec 32) (v31 : BitVec 32) (k0_hw2 : k0_chk2 i v30 v31), ∀ (k0_h3 : k0_cond3 i v30 v31 = 1#1), ∀ a, (k0_off4 i v31) a + S8x512.size a ≤ S1024x512.size a := fun i v30 v31 k0_hw2 k0_h3 => k0_hw2.2 k0_h3

def k0_off5 (i : grid0.Coords) (v38 : BitVec 32) : Fin 2 → Nat :=
  let c1024_i32_60 : BitVec 32 := 1024#32
  let c0_i32_59 : BitVec 32 := 0#32
  let arg0 : BitVec 32 := BitVec.ofNat 32 (i 0).val
  let c1024_i32 : BitVec 32 := 1024#32
  let v17 : BitVec 32 := Scalar.muli arg0 c1024_i32
  let v150 : BitVec 32 := Scalar.subi v38 v17
  let v151 : BitVec 32 := Scalar.maxsi c0_i32_59 v150
  let v152 : BitVec 32 := Scalar.minsi c1024_i32_60 v151
  let c0_i32_67 : BitVec 32 := 0#32
  let v169 : BitVec 1 := Scalar.cmpi .sgt v152 c0_i32_67
  let v170 : BitVec 32 := Scalar.extui v169
  let c0_i32_68 : BitVec 32 := 0#32
  let v171 : BitVec 1 := Scalar.cmpi .slt v152 c0_i32_68
  let v172 : BitVec 32 := Scalar.extui v171
  let v173 : BitVec 32 := Scalar.subi v170 v172
  let c8_i32_66 : BitVec 32 := 8#32
  let c0_i32_69 : BitVec 32 := 0#32
  let v174 : BitVec 1 := Scalar.cmpi .sgt c8_i32_66 c0_i32_69
  let v175 : BitVec 32 := Scalar.extui v174
  let c0_i32_70 : BitVec 32 := 0#32
  let v176 : BitVec 1 := Scalar.cmpi .slt c8_i32_66 c0_i32_70
  let v177 : BitVec 32 := Scalar.extui v176
  let v178 : BitVec 32 := Scalar.subi v175 v177
  let v179 : BitVec 1 := Scalar.cmpi .ne v173 v178
  let v180 : BitVec 32 := Scalar.remsi v152 c8_i32_66
  let c0_i32_71 : BitVec 32 := 0#32
  let v181 : BitVec 1 := Scalar.cmpi .ne v180 c0_i32_71
  let v182 : BitVec 1 := Scalar.andi v179 v181
  let v168 : BitVec 32 := Scalar.divsi v152 c8_i32_66
  let c1_i32 : BitVec 32 := 1#32
  let v183 : BitVec 32 := Scalar.subi v168 c1_i32
  let v184 : BitVec 32 := Scalar.select v182 v183 v168
  let c8_i32_80 : BitVec 32 := 8#32
  let v203 : BitVec 32 := Scalar.muli v184 c8_i32_80
  let v204 : Index := Scalar.indexCast v203
  let c0_81 : Index := 0#32
  ![v204.toNat, 0]
def k0_cond4 (i : grid0.Coords) (v38 : BitVec 32) (v39 : BitVec 32) : BitVec 1 :=
  let arg0 : BitVec 32 := BitVec.ofNat 32 (i 0).val
  let c1024_i32 : BitVec 32 := 1024#32
  let v17 : BitVec 32 := Scalar.muli arg0 c1024_i32
  let v40 : BitVec 1 := Scalar.cmpi .sgt v39 v17
  let c1024_i32_18 : BitVec 32 := 1024#32
  let v41 : BitVec 32 := Scalar.addi v17 c1024_i32_18
  let v42 : BitVec 1 := Scalar.cmpi .slt v38 v41
  let v43 : BitVec 1 := Scalar.andi v40 v42
  let v44 : BitVec 32 := Scalar.extui v43
  let c0_i32_19 : BitVec 32 := 0#32
  let v45 : BitVec 1 := Scalar.cmpi .ne v44 c0_i32_19
  v45

def k0_off6 (i : grid0.Coords) (v39 : BitVec 32) : Fin 2 → Nat :=
  let c1024_i32_62 : BitVec 32 := 1024#32
  let c0_i32_61 : BitVec 32 := 0#32
  let arg0 : BitVec 32 := BitVec.ofNat 32 (i 0).val
  let c1024_i32 : BitVec 32 := 1024#32
  let v17 : BitVec 32 := Scalar.muli arg0 c1024_i32
  let v153 : BitVec 32 := Scalar.subi v39 v17
  let v154 : BitVec 32 := Scalar.maxsi c0_i32_61 v153
  let v155 : BitVec 32 := Scalar.minsi c1024_i32_62 v154
  let c1_i32_72 : BitVec 32 := 1#32
  let v185 : BitVec 32 := Scalar.subi v155 c1_i32_72
  let c0_i32_74 : BitVec 32 := 0#32
  let v187 : BitVec 1 := Scalar.cmpi .sgt v185 c0_i32_74
  let v188 : BitVec 32 := Scalar.extui v187
  let c0_i32_75 : BitVec 32 := 0#32
  let v189 : BitVec 1 := Scalar.cmpi .slt v185 c0_i32_75
  let v190 : BitVec 32 := Scalar.extui v189
  let v191 : BitVec 32 := Scalar.subi v188 v190
  let c8_i32_73 : BitVec 32 := 8#32
  let c0_i32_76 : BitVec 32 := 0#32
  let v192 : BitVec 1 := Scalar.cmpi .sgt c8_i32_73 c0_i32_76
  let v193 : BitVec 32 := Scalar.extui v192
  let c0_i32_77 : BitVec 32 := 0#32
  let v194 : BitVec 1 := Scalar.cmpi .slt c8_i32_73 c0_i32_77
  let v195 : BitVec 32 := Scalar.extui v194
  let v196 : BitVec 32 := Scalar.subi v193 v195
  let v197 : BitVec 1 := Scalar.cmpi .ne v191 v196
  let v198 : BitVec 32 := Scalar.remsi v185 c8_i32_73
  let c0_i32_78 : BitVec 32 := 0#32
  let v199 : BitVec 1 := Scalar.cmpi .ne v198 c0_i32_78
  let v200 : BitVec 1 := Scalar.andi v197 v199
  let v186 : BitVec 32 := Scalar.divsi v185 c8_i32_73
  let c1_i32_79 : BitVec 32 := 1#32
  let v201 : BitVec 32 := Scalar.subi v186 c1_i32_79
  let v202 : BitVec 32 := Scalar.select v200 v201 v186
  let c8_i32_86 : BitVec 32 := 8#32
  let v223 : BitVec 32 := Scalar.muli v202 c8_i32_86
  let v224 : Index := Scalar.indexCast v223
  let c0_87 : Index := 0#32
  ![v224.toNat, 0]

def k0_chk3 (i : grid0.Coords) (v38 : BitVec 32) (v39 : BitVec 32) : Prop :=
  (∀ (k0_h4 : k0_cond4 i v38 v39 = 1#1), ∀ a, (k0_off5 i v38) a + S8x512.size a ≤ S1024x512.size a) ∧
  (∀ (k0_h4 : k0_cond4 i v38 v39 = 1#1), ∀ a, (k0_off6 i v39) a + S8x512.size a ≤ S1024x512.size a)
theorem k0_off5_inb : ∀ (i : grid0.Coords) (v38 : BitVec 32) (v39 : BitVec 32) (k0_hw3 : k0_chk3 i v38 v39), ∀ (k0_h4 : k0_cond4 i v38 v39 = 1#1), ∀ a, (k0_off5 i v38) a + S8x512.size a ≤ S1024x512.size a := fun i v38 v39 k0_hw3 k0_h4 => k0_hw3.1 k0_h4
theorem k0_off6_inb : ∀ (i : grid0.Coords) (v38 : BitVec 32) (v39 : BitVec 32) (k0_hw3 : k0_chk3 i v38 v39), ∀ (k0_h4 : k0_cond4 i v38 v39 = 1#1), ∀ a, (k0_off6 i v39) a + S8x512.size a ≤ S1024x512.size a := fun i v38 v39 k0_hw3 k0_h4 => k0_hw3.2 k0_h4

def k0_off7 (i : grid0.Coords) (v46 : BitVec 32) : Fin 2 → Nat :=
  let c1024_i32_60 : BitVec 32 := 1024#32
  let c0_i32_59 : BitVec 32 := 0#32
  let arg0 : BitVec 32 := BitVec.ofNat 32 (i 0).val
  let c1024_i32 : BitVec 32 := 1024#32
  let v17 : BitVec 32 := Scalar.muli arg0 c1024_i32
  let v150 : BitVec 32 := Scalar.subi v46 v17
  let v151 : BitVec 32 := Scalar.maxsi c0_i32_59 v150
  let v152 : BitVec 32 := Scalar.minsi c1024_i32_60 v151
  let c0_i32_67 : BitVec 32 := 0#32
  let v169 : BitVec 1 := Scalar.cmpi .sgt v152 c0_i32_67
  let v170 : BitVec 32 := Scalar.extui v169
  let c0_i32_68 : BitVec 32 := 0#32
  let v171 : BitVec 1 := Scalar.cmpi .slt v152 c0_i32_68
  let v172 : BitVec 32 := Scalar.extui v171
  let v173 : BitVec 32 := Scalar.subi v170 v172
  let c8_i32_66 : BitVec 32 := 8#32
  let c0_i32_69 : BitVec 32 := 0#32
  let v174 : BitVec 1 := Scalar.cmpi .sgt c8_i32_66 c0_i32_69
  let v175 : BitVec 32 := Scalar.extui v174
  let c0_i32_70 : BitVec 32 := 0#32
  let v176 : BitVec 1 := Scalar.cmpi .slt c8_i32_66 c0_i32_70
  let v177 : BitVec 32 := Scalar.extui v176
  let v178 : BitVec 32 := Scalar.subi v175 v177
  let v179 : BitVec 1 := Scalar.cmpi .ne v173 v178
  let v180 : BitVec 32 := Scalar.remsi v152 c8_i32_66
  let c0_i32_71 : BitVec 32 := 0#32
  let v181 : BitVec 1 := Scalar.cmpi .ne v180 c0_i32_71
  let v182 : BitVec 1 := Scalar.andi v179 v181
  let v168 : BitVec 32 := Scalar.divsi v152 c8_i32_66
  let c1_i32 : BitVec 32 := 1#32
  let v183 : BitVec 32 := Scalar.subi v168 c1_i32
  let v184 : BitVec 32 := Scalar.select v182 v183 v168
  let c8_i32_80 : BitVec 32 := 8#32
  let v203 : BitVec 32 := Scalar.muli v184 c8_i32_80
  let v204 : Index := Scalar.indexCast v203
  let c0_81 : Index := 0#32
  ![v204.toNat, 0]
def k0_cond5 (i : grid0.Coords) (v46 : BitVec 32) (v47 : BitVec 32) : BitVec 1 :=
  let arg0 : BitVec 32 := BitVec.ofNat 32 (i 0).val
  let c1024_i32 : BitVec 32 := 1024#32
  let v17 : BitVec 32 := Scalar.muli arg0 c1024_i32
  let v48 : BitVec 1 := Scalar.cmpi .sgt v47 v17
  let c1024_i32_21 : BitVec 32 := 1024#32
  let v49 : BitVec 32 := Scalar.addi v17 c1024_i32_21
  let v50 : BitVec 1 := Scalar.cmpi .slt v46 v49
  let v51 : BitVec 1 := Scalar.andi v48 v50
  let v52 : BitVec 32 := Scalar.extui v51
  let c0_i32_22 : BitVec 32 := 0#32
  let v53 : BitVec 1 := Scalar.cmpi .ne v52 c0_i32_22
  v53

def k0_off8 (i : grid0.Coords) (v47 : BitVec 32) : Fin 2 → Nat :=
  let c1024_i32_62 : BitVec 32 := 1024#32
  let c0_i32_61 : BitVec 32 := 0#32
  let arg0 : BitVec 32 := BitVec.ofNat 32 (i 0).val
  let c1024_i32 : BitVec 32 := 1024#32
  let v17 : BitVec 32 := Scalar.muli arg0 c1024_i32
  let v153 : BitVec 32 := Scalar.subi v47 v17
  let v154 : BitVec 32 := Scalar.maxsi c0_i32_61 v153
  let v155 : BitVec 32 := Scalar.minsi c1024_i32_62 v154
  let c1_i32_72 : BitVec 32 := 1#32
  let v185 : BitVec 32 := Scalar.subi v155 c1_i32_72
  let c0_i32_74 : BitVec 32 := 0#32
  let v187 : BitVec 1 := Scalar.cmpi .sgt v185 c0_i32_74
  let v188 : BitVec 32 := Scalar.extui v187
  let c0_i32_75 : BitVec 32 := 0#32
  let v189 : BitVec 1 := Scalar.cmpi .slt v185 c0_i32_75
  let v190 : BitVec 32 := Scalar.extui v189
  let v191 : BitVec 32 := Scalar.subi v188 v190
  let c8_i32_73 : BitVec 32 := 8#32
  let c0_i32_76 : BitVec 32 := 0#32
  let v192 : BitVec 1 := Scalar.cmpi .sgt c8_i32_73 c0_i32_76
  let v193 : BitVec 32 := Scalar.extui v192
  let c0_i32_77 : BitVec 32 := 0#32
  let v194 : BitVec 1 := Scalar.cmpi .slt c8_i32_73 c0_i32_77
  let v195 : BitVec 32 := Scalar.extui v194
  let v196 : BitVec 32 := Scalar.subi v193 v195
  let v197 : BitVec 1 := Scalar.cmpi .ne v191 v196
  let v198 : BitVec 32 := Scalar.remsi v185 c8_i32_73
  let c0_i32_78 : BitVec 32 := 0#32
  let v199 : BitVec 1 := Scalar.cmpi .ne v198 c0_i32_78
  let v200 : BitVec 1 := Scalar.andi v197 v199
  let v186 : BitVec 32 := Scalar.divsi v185 c8_i32_73
  let c1_i32_79 : BitVec 32 := 1#32
  let v201 : BitVec 32 := Scalar.subi v186 c1_i32_79
  let v202 : BitVec 32 := Scalar.select v200 v201 v186
  let c8_i32_86 : BitVec 32 := 8#32
  let v223 : BitVec 32 := Scalar.muli v202 c8_i32_86
  let v224 : Index := Scalar.indexCast v223
  let c0_87 : Index := 0#32
  ![v224.toNat, 0]

def k0_chk4 (i : grid0.Coords) (v46 : BitVec 32) (v47 : BitVec 32) : Prop :=
  (∀ (k0_h5 : k0_cond5 i v46 v47 = 1#1), ∀ a, (k0_off7 i v46) a + S8x512.size a ≤ S1024x512.size a) ∧
  (∀ (k0_h5 : k0_cond5 i v46 v47 = 1#1), ∀ a, (k0_off8 i v47) a + S8x512.size a ≤ S1024x512.size a)
theorem k0_off7_inb : ∀ (i : grid0.Coords) (v46 : BitVec 32) (v47 : BitVec 32) (k0_hw4 : k0_chk4 i v46 v47), ∀ (k0_h5 : k0_cond5 i v46 v47 = 1#1), ∀ a, (k0_off7 i v46) a + S8x512.size a ≤ S1024x512.size a := fun i v46 v47 k0_hw4 k0_h5 => k0_hw4.1 k0_h5
theorem k0_off8_inb : ∀ (i : grid0.Coords) (v46 : BitVec 32) (v47 : BitVec 32) (k0_hw4 : k0_chk4 i v46 v47), ∀ (k0_h5 : k0_cond5 i v46 v47 = 1#1), ∀ a, (k0_off8 i v47) a + S8x512.size a ≤ S1024x512.size a := fun i v46 v47 k0_hw4 k0_h5 => k0_hw4.2 k0_h5

def k0_off9 (i : grid0.Coords) (v54 : BitVec 32) : Fin 2 → Nat :=
  let c1024_i32_60 : BitVec 32 := 1024#32
  let c0_i32_59 : BitVec 32 := 0#32
  let arg0 : BitVec 32 := BitVec.ofNat 32 (i 0).val
  let c1024_i32 : BitVec 32 := 1024#32
  let v17 : BitVec 32 := Scalar.muli arg0 c1024_i32
  let v150 : BitVec 32 := Scalar.subi v54 v17
  let v151 : BitVec 32 := Scalar.maxsi c0_i32_59 v150
  let v152 : BitVec 32 := Scalar.minsi c1024_i32_60 v151
  let c0_i32_67 : BitVec 32 := 0#32
  let v169 : BitVec 1 := Scalar.cmpi .sgt v152 c0_i32_67
  let v170 : BitVec 32 := Scalar.extui v169
  let c0_i32_68 : BitVec 32 := 0#32
  let v171 : BitVec 1 := Scalar.cmpi .slt v152 c0_i32_68
  let v172 : BitVec 32 := Scalar.extui v171
  let v173 : BitVec 32 := Scalar.subi v170 v172
  let c8_i32_66 : BitVec 32 := 8#32
  let c0_i32_69 : BitVec 32 := 0#32
  let v174 : BitVec 1 := Scalar.cmpi .sgt c8_i32_66 c0_i32_69
  let v175 : BitVec 32 := Scalar.extui v174
  let c0_i32_70 : BitVec 32 := 0#32
  let v176 : BitVec 1 := Scalar.cmpi .slt c8_i32_66 c0_i32_70
  let v177 : BitVec 32 := Scalar.extui v176
  let v178 : BitVec 32 := Scalar.subi v175 v177
  let v179 : BitVec 1 := Scalar.cmpi .ne v173 v178
  let v180 : BitVec 32 := Scalar.remsi v152 c8_i32_66
  let c0_i32_71 : BitVec 32 := 0#32
  let v181 : BitVec 1 := Scalar.cmpi .ne v180 c0_i32_71
  let v182 : BitVec 1 := Scalar.andi v179 v181
  let v168 : BitVec 32 := Scalar.divsi v152 c8_i32_66
  let c1_i32 : BitVec 32 := 1#32
  let v183 : BitVec 32 := Scalar.subi v168 c1_i32
  let v184 : BitVec 32 := Scalar.select v182 v183 v168
  let c8_i32_80 : BitVec 32 := 8#32
  let v203 : BitVec 32 := Scalar.muli v184 c8_i32_80
  let v204 : Index := Scalar.indexCast v203
  let c0_81 : Index := 0#32
  ![v204.toNat, 0]
def k0_cond6 (i : grid0.Coords) (v54 : BitVec 32) (v55 : BitVec 32) : BitVec 1 :=
  let arg0 : BitVec 32 := BitVec.ofNat 32 (i 0).val
  let c1024_i32 : BitVec 32 := 1024#32
  let v17 : BitVec 32 := Scalar.muli arg0 c1024_i32
  let v56 : BitVec 1 := Scalar.cmpi .sgt v55 v17
  let c1024_i32_24 : BitVec 32 := 1024#32
  let v57 : BitVec 32 := Scalar.addi v17 c1024_i32_24
  let v58 : BitVec 1 := Scalar.cmpi .slt v54 v57
  let v59 : BitVec 1 := Scalar.andi v56 v58
  let v60 : BitVec 32 := Scalar.extui v59
  let c0_i32_25 : BitVec 32 := 0#32
  let v61 : BitVec 1 := Scalar.cmpi .ne v60 c0_i32_25
  v61

def k0_off10 (i : grid0.Coords) (v55 : BitVec 32) : Fin 2 → Nat :=
  let c1024_i32_62 : BitVec 32 := 1024#32
  let c0_i32_61 : BitVec 32 := 0#32
  let arg0 : BitVec 32 := BitVec.ofNat 32 (i 0).val
  let c1024_i32 : BitVec 32 := 1024#32
  let v17 : BitVec 32 := Scalar.muli arg0 c1024_i32
  let v153 : BitVec 32 := Scalar.subi v55 v17
  let v154 : BitVec 32 := Scalar.maxsi c0_i32_61 v153
  let v155 : BitVec 32 := Scalar.minsi c1024_i32_62 v154
  let c1_i32_72 : BitVec 32 := 1#32
  let v185 : BitVec 32 := Scalar.subi v155 c1_i32_72
  let c0_i32_74 : BitVec 32 := 0#32
  let v187 : BitVec 1 := Scalar.cmpi .sgt v185 c0_i32_74
  let v188 : BitVec 32 := Scalar.extui v187
  let c0_i32_75 : BitVec 32 := 0#32
  let v189 : BitVec 1 := Scalar.cmpi .slt v185 c0_i32_75
  let v190 : BitVec 32 := Scalar.extui v189
  let v191 : BitVec 32 := Scalar.subi v188 v190
  let c8_i32_73 : BitVec 32 := 8#32
  let c0_i32_76 : BitVec 32 := 0#32
  let v192 : BitVec 1 := Scalar.cmpi .sgt c8_i32_73 c0_i32_76
  let v193 : BitVec 32 := Scalar.extui v192
  let c0_i32_77 : BitVec 32 := 0#32
  let v194 : BitVec 1 := Scalar.cmpi .slt c8_i32_73 c0_i32_77
  let v195 : BitVec 32 := Scalar.extui v194
  let v196 : BitVec 32 := Scalar.subi v193 v195
  let v197 : BitVec 1 := Scalar.cmpi .ne v191 v196
  let v198 : BitVec 32 := Scalar.remsi v185 c8_i32_73
  let c0_i32_78 : BitVec 32 := 0#32
  let v199 : BitVec 1 := Scalar.cmpi .ne v198 c0_i32_78
  let v200 : BitVec 1 := Scalar.andi v197 v199
  let v186 : BitVec 32 := Scalar.divsi v185 c8_i32_73
  let c1_i32_79 : BitVec 32 := 1#32
  let v201 : BitVec 32 := Scalar.subi v186 c1_i32_79
  let v202 : BitVec 32 := Scalar.select v200 v201 v186
  let c8_i32_86 : BitVec 32 := 8#32
  let v223 : BitVec 32 := Scalar.muli v202 c8_i32_86
  let v224 : Index := Scalar.indexCast v223
  let c0_87 : Index := 0#32
  ![v224.toNat, 0]

def k0_chk5 (i : grid0.Coords) (v54 : BitVec 32) (v55 : BitVec 32) : Prop :=
  (∀ (k0_h6 : k0_cond6 i v54 v55 = 1#1), ∀ a, (k0_off9 i v54) a + S8x512.size a ≤ S1024x512.size a) ∧
  (∀ (k0_h6 : k0_cond6 i v54 v55 = 1#1), ∀ a, (k0_off10 i v55) a + S8x512.size a ≤ S1024x512.size a)
theorem k0_off9_inb : ∀ (i : grid0.Coords) (v54 : BitVec 32) (v55 : BitVec 32) (k0_hw5 : k0_chk5 i v54 v55), ∀ (k0_h6 : k0_cond6 i v54 v55 = 1#1), ∀ a, (k0_off9 i v54) a + S8x512.size a ≤ S1024x512.size a := fun i v54 v55 k0_hw5 k0_h6 => k0_hw5.1 k0_h6
theorem k0_off10_inb : ∀ (i : grid0.Coords) (v54 : BitVec 32) (v55 : BitVec 32) (k0_hw5 : k0_chk5 i v54 v55), ∀ (k0_h6 : k0_cond6 i v54 v55 = 1#1), ∀ a, (k0_off10 i v55) a + S8x512.size a ≤ S1024x512.size a := fun i v54 v55 k0_hw5 k0_h6 => k0_hw5.2 k0_h6

def k0_off11 (i : grid0.Coords) (v62 : BitVec 32) : Fin 2 → Nat :=
  let c1024_i32_60 : BitVec 32 := 1024#32
  let c0_i32_59 : BitVec 32 := 0#32
  let arg0 : BitVec 32 := BitVec.ofNat 32 (i 0).val
  let c1024_i32 : BitVec 32 := 1024#32
  let v17 : BitVec 32 := Scalar.muli arg0 c1024_i32
  let v150 : BitVec 32 := Scalar.subi v62 v17
  let v151 : BitVec 32 := Scalar.maxsi c0_i32_59 v150
  let v152 : BitVec 32 := Scalar.minsi c1024_i32_60 v151
  let c0_i32_67 : BitVec 32 := 0#32
  let v169 : BitVec 1 := Scalar.cmpi .sgt v152 c0_i32_67
  let v170 : BitVec 32 := Scalar.extui v169
  let c0_i32_68 : BitVec 32 := 0#32
  let v171 : BitVec 1 := Scalar.cmpi .slt v152 c0_i32_68
  let v172 : BitVec 32 := Scalar.extui v171
  let v173 : BitVec 32 := Scalar.subi v170 v172
  let c8_i32_66 : BitVec 32 := 8#32
  let c0_i32_69 : BitVec 32 := 0#32
  let v174 : BitVec 1 := Scalar.cmpi .sgt c8_i32_66 c0_i32_69
  let v175 : BitVec 32 := Scalar.extui v174
  let c0_i32_70 : BitVec 32 := 0#32
  let v176 : BitVec 1 := Scalar.cmpi .slt c8_i32_66 c0_i32_70
  let v177 : BitVec 32 := Scalar.extui v176
  let v178 : BitVec 32 := Scalar.subi v175 v177
  let v179 : BitVec 1 := Scalar.cmpi .ne v173 v178
  let v180 : BitVec 32 := Scalar.remsi v152 c8_i32_66
  let c0_i32_71 : BitVec 32 := 0#32
  let v181 : BitVec 1 := Scalar.cmpi .ne v180 c0_i32_71
  let v182 : BitVec 1 := Scalar.andi v179 v181
  let v168 : BitVec 32 := Scalar.divsi v152 c8_i32_66
  let c1_i32 : BitVec 32 := 1#32
  let v183 : BitVec 32 := Scalar.subi v168 c1_i32
  let v184 : BitVec 32 := Scalar.select v182 v183 v168
  let c8_i32_80 : BitVec 32 := 8#32
  let v203 : BitVec 32 := Scalar.muli v184 c8_i32_80
  let v204 : Index := Scalar.indexCast v203
  let c0_81 : Index := 0#32
  ![v204.toNat, 0]
def k0_cond7 (i : grid0.Coords) (v62 : BitVec 32) (v63 : BitVec 32) : BitVec 1 :=
  let arg0 : BitVec 32 := BitVec.ofNat 32 (i 0).val
  let c1024_i32 : BitVec 32 := 1024#32
  let v17 : BitVec 32 := Scalar.muli arg0 c1024_i32
  let v64 : BitVec 1 := Scalar.cmpi .sgt v63 v17
  let c1024_i32_27 : BitVec 32 := 1024#32
  let v65 : BitVec 32 := Scalar.addi v17 c1024_i32_27
  let v66 : BitVec 1 := Scalar.cmpi .slt v62 v65
  let v67 : BitVec 1 := Scalar.andi v64 v66
  let v68 : BitVec 32 := Scalar.extui v67
  let c0_i32_28 : BitVec 32 := 0#32
  let v69 : BitVec 1 := Scalar.cmpi .ne v68 c0_i32_28
  v69

def k0_off12 (i : grid0.Coords) (v63 : BitVec 32) : Fin 2 → Nat :=
  let c1024_i32_62 : BitVec 32 := 1024#32
  let c0_i32_61 : BitVec 32 := 0#32
  let arg0 : BitVec 32 := BitVec.ofNat 32 (i 0).val
  let c1024_i32 : BitVec 32 := 1024#32
  let v17 : BitVec 32 := Scalar.muli arg0 c1024_i32
  let v153 : BitVec 32 := Scalar.subi v63 v17
  let v154 : BitVec 32 := Scalar.maxsi c0_i32_61 v153
  let v155 : BitVec 32 := Scalar.minsi c1024_i32_62 v154
  let c1_i32_72 : BitVec 32 := 1#32
  let v185 : BitVec 32 := Scalar.subi v155 c1_i32_72
  let c0_i32_74 : BitVec 32 := 0#32
  let v187 : BitVec 1 := Scalar.cmpi .sgt v185 c0_i32_74
  let v188 : BitVec 32 := Scalar.extui v187
  let c0_i32_75 : BitVec 32 := 0#32
  let v189 : BitVec 1 := Scalar.cmpi .slt v185 c0_i32_75
  let v190 : BitVec 32 := Scalar.extui v189
  let v191 : BitVec 32 := Scalar.subi v188 v190
  let c8_i32_73 : BitVec 32 := 8#32
  let c0_i32_76 : BitVec 32 := 0#32
  let v192 : BitVec 1 := Scalar.cmpi .sgt c8_i32_73 c0_i32_76
  let v193 : BitVec 32 := Scalar.extui v192
  let c0_i32_77 : BitVec 32 := 0#32
  let v194 : BitVec 1 := Scalar.cmpi .slt c8_i32_73 c0_i32_77
  let v195 : BitVec 32 := Scalar.extui v194
  let v196 : BitVec 32 := Scalar.subi v193 v195
  let v197 : BitVec 1 := Scalar.cmpi .ne v191 v196
  let v198 : BitVec 32 := Scalar.remsi v185 c8_i32_73
  let c0_i32_78 : BitVec 32 := 0#32
  let v199 : BitVec 1 := Scalar.cmpi .ne v198 c0_i32_78
  let v200 : BitVec 1 := Scalar.andi v197 v199
  let v186 : BitVec 32 := Scalar.divsi v185 c8_i32_73
  let c1_i32_79 : BitVec 32 := 1#32
  let v201 : BitVec 32 := Scalar.subi v186 c1_i32_79
  let v202 : BitVec 32 := Scalar.select v200 v201 v186
  let c8_i32_86 : BitVec 32 := 8#32
  let v223 : BitVec 32 := Scalar.muli v202 c8_i32_86
  let v224 : Index := Scalar.indexCast v223
  let c0_87 : Index := 0#32
  ![v224.toNat, 0]

def k0_chk6 (i : grid0.Coords) (v62 : BitVec 32) (v63 : BitVec 32) : Prop :=
  (∀ (k0_h7 : k0_cond7 i v62 v63 = 1#1), ∀ a, (k0_off11 i v62) a + S8x512.size a ≤ S1024x512.size a) ∧
  (∀ (k0_h7 : k0_cond7 i v62 v63 = 1#1), ∀ a, (k0_off12 i v63) a + S8x512.size a ≤ S1024x512.size a)
theorem k0_off11_inb : ∀ (i : grid0.Coords) (v62 : BitVec 32) (v63 : BitVec 32) (k0_hw6 : k0_chk6 i v62 v63), ∀ (k0_h7 : k0_cond7 i v62 v63 = 1#1), ∀ a, (k0_off11 i v62) a + S8x512.size a ≤ S1024x512.size a := fun i v62 v63 k0_hw6 k0_h7 => k0_hw6.1 k0_h7
theorem k0_off12_inb : ∀ (i : grid0.Coords) (v62 : BitVec 32) (v63 : BitVec 32) (k0_hw6 : k0_chk6 i v62 v63), ∀ (k0_h7 : k0_cond7 i v62 v63 = 1#1), ∀ a, (k0_off12 i v63) a + S8x512.size a ≤ S1024x512.size a := fun i v62 v63 k0_hw6 k0_h7 => k0_hw6.2 k0_h7

def k0_off13 (i : grid0.Coords) (v70 : BitVec 32) : Fin 2 → Nat :=
  let c1024_i32_60 : BitVec 32 := 1024#32
  let c0_i32_59 : BitVec 32 := 0#32
  let arg0 : BitVec 32 := BitVec.ofNat 32 (i 0).val
  let c1024_i32 : BitVec 32 := 1024#32
  let v17 : BitVec 32 := Scalar.muli arg0 c1024_i32
  let v150 : BitVec 32 := Scalar.subi v70 v17
  let v151 : BitVec 32 := Scalar.maxsi c0_i32_59 v150
  let v152 : BitVec 32 := Scalar.minsi c1024_i32_60 v151
  let c0_i32_67 : BitVec 32 := 0#32
  let v169 : BitVec 1 := Scalar.cmpi .sgt v152 c0_i32_67
  let v170 : BitVec 32 := Scalar.extui v169
  let c0_i32_68 : BitVec 32 := 0#32
  let v171 : BitVec 1 := Scalar.cmpi .slt v152 c0_i32_68
  let v172 : BitVec 32 := Scalar.extui v171
  let v173 : BitVec 32 := Scalar.subi v170 v172
  let c8_i32_66 : BitVec 32 := 8#32
  let c0_i32_69 : BitVec 32 := 0#32
  let v174 : BitVec 1 := Scalar.cmpi .sgt c8_i32_66 c0_i32_69
  let v175 : BitVec 32 := Scalar.extui v174
  let c0_i32_70 : BitVec 32 := 0#32
  let v176 : BitVec 1 := Scalar.cmpi .slt c8_i32_66 c0_i32_70
  let v177 : BitVec 32 := Scalar.extui v176
  let v178 : BitVec 32 := Scalar.subi v175 v177
  let v179 : BitVec 1 := Scalar.cmpi .ne v173 v178
  let v180 : BitVec 32 := Scalar.remsi v152 c8_i32_66
  let c0_i32_71 : BitVec 32 := 0#32
  let v181 : BitVec 1 := Scalar.cmpi .ne v180 c0_i32_71
  let v182 : BitVec 1 := Scalar.andi v179 v181
  let v168 : BitVec 32 := Scalar.divsi v152 c8_i32_66
  let c1_i32 : BitVec 32 := 1#32
  let v183 : BitVec 32 := Scalar.subi v168 c1_i32
  let v184 : BitVec 32 := Scalar.select v182 v183 v168
  let c8_i32_80 : BitVec 32 := 8#32
  let v203 : BitVec 32 := Scalar.muli v184 c8_i32_80
  let v204 : Index := Scalar.indexCast v203
  let c0_81 : Index := 0#32
  ![v204.toNat, 0]
def k0_cond8 (i : grid0.Coords) (v70 : BitVec 32) (v71 : BitVec 32) : BitVec 1 :=
  let arg0 : BitVec 32 := BitVec.ofNat 32 (i 0).val
  let c1024_i32 : BitVec 32 := 1024#32
  let v17 : BitVec 32 := Scalar.muli arg0 c1024_i32
  let v72 : BitVec 1 := Scalar.cmpi .sgt v71 v17
  let c1024_i32_30 : BitVec 32 := 1024#32
  let v73 : BitVec 32 := Scalar.addi v17 c1024_i32_30
  let v74 : BitVec 1 := Scalar.cmpi .slt v70 v73
  let v75 : BitVec 1 := Scalar.andi v72 v74
  let v76 : BitVec 32 := Scalar.extui v75
  let c0_i32_31 : BitVec 32 := 0#32
  let v77 : BitVec 1 := Scalar.cmpi .ne v76 c0_i32_31
  v77

def k0_off14 (i : grid0.Coords) (v71 : BitVec 32) : Fin 2 → Nat :=
  let c1024_i32_62 : BitVec 32 := 1024#32
  let c0_i32_61 : BitVec 32 := 0#32
  let arg0 : BitVec 32 := BitVec.ofNat 32 (i 0).val
  let c1024_i32 : BitVec 32 := 1024#32
  let v17 : BitVec 32 := Scalar.muli arg0 c1024_i32
  let v153 : BitVec 32 := Scalar.subi v71 v17
  let v154 : BitVec 32 := Scalar.maxsi c0_i32_61 v153
  let v155 : BitVec 32 := Scalar.minsi c1024_i32_62 v154
  let c1_i32_72 : BitVec 32 := 1#32
  let v185 : BitVec 32 := Scalar.subi v155 c1_i32_72
  let c0_i32_74 : BitVec 32 := 0#32
  let v187 : BitVec 1 := Scalar.cmpi .sgt v185 c0_i32_74
  let v188 : BitVec 32 := Scalar.extui v187
  let c0_i32_75 : BitVec 32 := 0#32
  let v189 : BitVec 1 := Scalar.cmpi .slt v185 c0_i32_75
  let v190 : BitVec 32 := Scalar.extui v189
  let v191 : BitVec 32 := Scalar.subi v188 v190
  let c8_i32_73 : BitVec 32 := 8#32
  let c0_i32_76 : BitVec 32 := 0#32
  let v192 : BitVec 1 := Scalar.cmpi .sgt c8_i32_73 c0_i32_76
  let v193 : BitVec 32 := Scalar.extui v192
  let c0_i32_77 : BitVec 32 := 0#32
  let v194 : BitVec 1 := Scalar.cmpi .slt c8_i32_73 c0_i32_77
  let v195 : BitVec 32 := Scalar.extui v194
  let v196 : BitVec 32 := Scalar.subi v193 v195
  let v197 : BitVec 1 := Scalar.cmpi .ne v191 v196
  let v198 : BitVec 32 := Scalar.remsi v185 c8_i32_73
  let c0_i32_78 : BitVec 32 := 0#32
  let v199 : BitVec 1 := Scalar.cmpi .ne v198 c0_i32_78
  let v200 : BitVec 1 := Scalar.andi v197 v199
  let v186 : BitVec 32 := Scalar.divsi v185 c8_i32_73
  let c1_i32_79 : BitVec 32 := 1#32
  let v201 : BitVec 32 := Scalar.subi v186 c1_i32_79
  let v202 : BitVec 32 := Scalar.select v200 v201 v186
  let c8_i32_86 : BitVec 32 := 8#32
  let v223 : BitVec 32 := Scalar.muli v202 c8_i32_86
  let v224 : Index := Scalar.indexCast v223
  let c0_87 : Index := 0#32
  ![v224.toNat, 0]

def k0_chk7 (i : grid0.Coords) (v70 : BitVec 32) (v71 : BitVec 32) : Prop :=
  (∀ (k0_h8 : k0_cond8 i v70 v71 = 1#1), ∀ a, (k0_off13 i v70) a + S8x512.size a ≤ S1024x512.size a) ∧
  (∀ (k0_h8 : k0_cond8 i v70 v71 = 1#1), ∀ a, (k0_off14 i v71) a + S8x512.size a ≤ S1024x512.size a)
theorem k0_off13_inb : ∀ (i : grid0.Coords) (v70 : BitVec 32) (v71 : BitVec 32) (k0_hw7 : k0_chk7 i v70 v71), ∀ (k0_h8 : k0_cond8 i v70 v71 = 1#1), ∀ a, (k0_off13 i v70) a + S8x512.size a ≤ S1024x512.size a := fun i v70 v71 k0_hw7 k0_h8 => k0_hw7.1 k0_h8
theorem k0_off14_inb : ∀ (i : grid0.Coords) (v70 : BitVec 32) (v71 : BitVec 32) (k0_hw7 : k0_chk7 i v70 v71), ∀ (k0_h8 : k0_cond8 i v70 v71 = 1#1), ∀ a, (k0_off14 i v71) a + S8x512.size a ≤ S1024x512.size a := fun i v70 v71 k0_hw7 k0_h8 => k0_hw7.2 k0_h8

def k0_off15 (i : grid0.Coords) (v78 : BitVec 32) : Fin 2 → Nat :=
  let c1024_i32_60 : BitVec 32 := 1024#32
  let c0_i32_59 : BitVec 32 := 0#32
  let arg0 : BitVec 32 := BitVec.ofNat 32 (i 0).val
  let c1024_i32 : BitVec 32 := 1024#32
  let v17 : BitVec 32 := Scalar.muli arg0 c1024_i32
  let v150 : BitVec 32 := Scalar.subi v78 v17
  let v151 : BitVec 32 := Scalar.maxsi c0_i32_59 v150
  let v152 : BitVec 32 := Scalar.minsi c1024_i32_60 v151
  let c0_i32_67 : BitVec 32 := 0#32
  let v169 : BitVec 1 := Scalar.cmpi .sgt v152 c0_i32_67
  let v170 : BitVec 32 := Scalar.extui v169
  let c0_i32_68 : BitVec 32 := 0#32
  let v171 : BitVec 1 := Scalar.cmpi .slt v152 c0_i32_68
  let v172 : BitVec 32 := Scalar.extui v171
  let v173 : BitVec 32 := Scalar.subi v170 v172
  let c8_i32_66 : BitVec 32 := 8#32
  let c0_i32_69 : BitVec 32 := 0#32
  let v174 : BitVec 1 := Scalar.cmpi .sgt c8_i32_66 c0_i32_69
  let v175 : BitVec 32 := Scalar.extui v174
  let c0_i32_70 : BitVec 32 := 0#32
  let v176 : BitVec 1 := Scalar.cmpi .slt c8_i32_66 c0_i32_70
  let v177 : BitVec 32 := Scalar.extui v176
  let v178 : BitVec 32 := Scalar.subi v175 v177
  let v179 : BitVec 1 := Scalar.cmpi .ne v173 v178
  let v180 : BitVec 32 := Scalar.remsi v152 c8_i32_66
  let c0_i32_71 : BitVec 32 := 0#32
  let v181 : BitVec 1 := Scalar.cmpi .ne v180 c0_i32_71
  let v182 : BitVec 1 := Scalar.andi v179 v181
  let v168 : BitVec 32 := Scalar.divsi v152 c8_i32_66
  let c1_i32 : BitVec 32 := 1#32
  let v183 : BitVec 32 := Scalar.subi v168 c1_i32
  let v184 : BitVec 32 := Scalar.select v182 v183 v168
  let c8_i32_80 : BitVec 32 := 8#32
  let v203 : BitVec 32 := Scalar.muli v184 c8_i32_80
  let v204 : Index := Scalar.indexCast v203
  let c0_81 : Index := 0#32
  ![v204.toNat, 0]
def k0_cond9 (i : grid0.Coords) (v78 : BitVec 32) (v79 : BitVec 32) : BitVec 1 :=
  let arg0 : BitVec 32 := BitVec.ofNat 32 (i 0).val
  let c1024_i32 : BitVec 32 := 1024#32
  let v17 : BitVec 32 := Scalar.muli arg0 c1024_i32
  let v80 : BitVec 1 := Scalar.cmpi .sgt v79 v17
  let c1024_i32_33 : BitVec 32 := 1024#32
  let v81 : BitVec 32 := Scalar.addi v17 c1024_i32_33
  let v82 : BitVec 1 := Scalar.cmpi .slt v78 v81
  let v83 : BitVec 1 := Scalar.andi v80 v82
  let v84 : BitVec 32 := Scalar.extui v83
  let c0_i32_34 : BitVec 32 := 0#32
  let v85 : BitVec 1 := Scalar.cmpi .ne v84 c0_i32_34
  v85

def k0_off16 (i : grid0.Coords) (v79 : BitVec 32) : Fin 2 → Nat :=
  let c1024_i32_62 : BitVec 32 := 1024#32
  let c0_i32_61 : BitVec 32 := 0#32
  let arg0 : BitVec 32 := BitVec.ofNat 32 (i 0).val
  let c1024_i32 : BitVec 32 := 1024#32
  let v17 : BitVec 32 := Scalar.muli arg0 c1024_i32
  let v153 : BitVec 32 := Scalar.subi v79 v17
  let v154 : BitVec 32 := Scalar.maxsi c0_i32_61 v153
  let v155 : BitVec 32 := Scalar.minsi c1024_i32_62 v154
  let c1_i32_72 : BitVec 32 := 1#32
  let v185 : BitVec 32 := Scalar.subi v155 c1_i32_72
  let c0_i32_74 : BitVec 32 := 0#32
  let v187 : BitVec 1 := Scalar.cmpi .sgt v185 c0_i32_74
  let v188 : BitVec 32 := Scalar.extui v187
  let c0_i32_75 : BitVec 32 := 0#32
  let v189 : BitVec 1 := Scalar.cmpi .slt v185 c0_i32_75
  let v190 : BitVec 32 := Scalar.extui v189
  let v191 : BitVec 32 := Scalar.subi v188 v190
  let c8_i32_73 : BitVec 32 := 8#32
  let c0_i32_76 : BitVec 32 := 0#32
  let v192 : BitVec 1 := Scalar.cmpi .sgt c8_i32_73 c0_i32_76
  let v193 : BitVec 32 := Scalar.extui v192
  let c0_i32_77 : BitVec 32 := 0#32
  let v194 : BitVec 1 := Scalar.cmpi .slt c8_i32_73 c0_i32_77
  let v195 : BitVec 32 := Scalar.extui v194
  let v196 : BitVec 32 := Scalar.subi v193 v195
  let v197 : BitVec 1 := Scalar.cmpi .ne v191 v196
  let v198 : BitVec 32 := Scalar.remsi v185 c8_i32_73
  let c0_i32_78 : BitVec 32 := 0#32
  let v199 : BitVec 1 := Scalar.cmpi .ne v198 c0_i32_78
  let v200 : BitVec 1 := Scalar.andi v197 v199
  let v186 : BitVec 32 := Scalar.divsi v185 c8_i32_73
  let c1_i32_79 : BitVec 32 := 1#32
  let v201 : BitVec 32 := Scalar.subi v186 c1_i32_79
  let v202 : BitVec 32 := Scalar.select v200 v201 v186
  let c8_i32_86 : BitVec 32 := 8#32
  let v223 : BitVec 32 := Scalar.muli v202 c8_i32_86
  let v224 : Index := Scalar.indexCast v223
  let c0_87 : Index := 0#32
  ![v224.toNat, 0]

def k0_chk8 (i : grid0.Coords) (v78 : BitVec 32) (v79 : BitVec 32) : Prop :=
  (∀ (k0_h9 : k0_cond9 i v78 v79 = 1#1), ∀ a, (k0_off15 i v78) a + S8x512.size a ≤ S1024x512.size a) ∧
  (∀ (k0_h9 : k0_cond9 i v78 v79 = 1#1), ∀ a, (k0_off16 i v79) a + S8x512.size a ≤ S1024x512.size a)
theorem k0_off15_inb : ∀ (i : grid0.Coords) (v78 : BitVec 32) (v79 : BitVec 32) (k0_hw8 : k0_chk8 i v78 v79), ∀ (k0_h9 : k0_cond9 i v78 v79 = 1#1), ∀ a, (k0_off15 i v78) a + S8x512.size a ≤ S1024x512.size a := fun i v78 v79 k0_hw8 k0_h9 => k0_hw8.1 k0_h9
theorem k0_off16_inb : ∀ (i : grid0.Coords) (v78 : BitVec 32) (v79 : BitVec 32) (k0_hw8 : k0_chk8 i v78 v79), ∀ (k0_h9 : k0_cond9 i v78 v79 = 1#1), ∀ a, (k0_off16 i v79) a + S8x512.size a ≤ S1024x512.size a := fun i v78 v79 k0_hw8 k0_h9 => k0_hw8.2 k0_h9

def k0_off17 (i : grid0.Coords) (v86 : BitVec 32) : Fin 2 → Nat :=
  let c1024_i32_60 : BitVec 32 := 1024#32
  let c0_i32_59 : BitVec 32 := 0#32
  let arg0 : BitVec 32 := BitVec.ofNat 32 (i 0).val
  let c1024_i32 : BitVec 32 := 1024#32
  let v17 : BitVec 32 := Scalar.muli arg0 c1024_i32
  let v150 : BitVec 32 := Scalar.subi v86 v17
  let v151 : BitVec 32 := Scalar.maxsi c0_i32_59 v150
  let v152 : BitVec 32 := Scalar.minsi c1024_i32_60 v151
  let c0_i32_67 : BitVec 32 := 0#32
  let v169 : BitVec 1 := Scalar.cmpi .sgt v152 c0_i32_67
  let v170 : BitVec 32 := Scalar.extui v169
  let c0_i32_68 : BitVec 32 := 0#32
  let v171 : BitVec 1 := Scalar.cmpi .slt v152 c0_i32_68
  let v172 : BitVec 32 := Scalar.extui v171
  let v173 : BitVec 32 := Scalar.subi v170 v172
  let c8_i32_66 : BitVec 32 := 8#32
  let c0_i32_69 : BitVec 32 := 0#32
  let v174 : BitVec 1 := Scalar.cmpi .sgt c8_i32_66 c0_i32_69
  let v175 : BitVec 32 := Scalar.extui v174
  let c0_i32_70 : BitVec 32 := 0#32
  let v176 : BitVec 1 := Scalar.cmpi .slt c8_i32_66 c0_i32_70
  let v177 : BitVec 32 := Scalar.extui v176
  let v178 : BitVec 32 := Scalar.subi v175 v177
  let v179 : BitVec 1 := Scalar.cmpi .ne v173 v178
  let v180 : BitVec 32 := Scalar.remsi v152 c8_i32_66
  let c0_i32_71 : BitVec 32 := 0#32
  let v181 : BitVec 1 := Scalar.cmpi .ne v180 c0_i32_71
  let v182 : BitVec 1 := Scalar.andi v179 v181
  let v168 : BitVec 32 := Scalar.divsi v152 c8_i32_66
  let c1_i32 : BitVec 32 := 1#32
  let v183 : BitVec 32 := Scalar.subi v168 c1_i32
  let v184 : BitVec 32 := Scalar.select v182 v183 v168
  let c8_i32_80 : BitVec 32 := 8#32
  let v203 : BitVec 32 := Scalar.muli v184 c8_i32_80
  let v204 : Index := Scalar.indexCast v203
  let c0_81 : Index := 0#32
  ![v204.toNat, 0]
def k0_cond10 (i : grid0.Coords) (v86 : BitVec 32) (v87 : BitVec 32) : BitVec 1 :=
  let arg0 : BitVec 32 := BitVec.ofNat 32 (i 0).val
  let c1024_i32 : BitVec 32 := 1024#32
  let v17 : BitVec 32 := Scalar.muli arg0 c1024_i32
  let v88 : BitVec 1 := Scalar.cmpi .sgt v87 v17
  let c1024_i32_36 : BitVec 32 := 1024#32
  let v89 : BitVec 32 := Scalar.addi v17 c1024_i32_36
  let v90 : BitVec 1 := Scalar.cmpi .slt v86 v89
  let v91 : BitVec 1 := Scalar.andi v88 v90
  let v92 : BitVec 32 := Scalar.extui v91
  let c0_i32_37 : BitVec 32 := 0#32
  let v93 : BitVec 1 := Scalar.cmpi .ne v92 c0_i32_37
  v93

def k0_off18 (i : grid0.Coords) (v87 : BitVec 32) : Fin 2 → Nat :=
  let c1024_i32_62 : BitVec 32 := 1024#32
  let c0_i32_61 : BitVec 32 := 0#32
  let arg0 : BitVec 32 := BitVec.ofNat 32 (i 0).val
  let c1024_i32 : BitVec 32 := 1024#32
  let v17 : BitVec 32 := Scalar.muli arg0 c1024_i32
  let v153 : BitVec 32 := Scalar.subi v87 v17
  let v154 : BitVec 32 := Scalar.maxsi c0_i32_61 v153
  let v155 : BitVec 32 := Scalar.minsi c1024_i32_62 v154
  let c1_i32_72 : BitVec 32 := 1#32
  let v185 : BitVec 32 := Scalar.subi v155 c1_i32_72
  let c0_i32_74 : BitVec 32 := 0#32
  let v187 : BitVec 1 := Scalar.cmpi .sgt v185 c0_i32_74
  let v188 : BitVec 32 := Scalar.extui v187
  let c0_i32_75 : BitVec 32 := 0#32
  let v189 : BitVec 1 := Scalar.cmpi .slt v185 c0_i32_75
  let v190 : BitVec 32 := Scalar.extui v189
  let v191 : BitVec 32 := Scalar.subi v188 v190
  let c8_i32_73 : BitVec 32 := 8#32
  let c0_i32_76 : BitVec 32 := 0#32
  let v192 : BitVec 1 := Scalar.cmpi .sgt c8_i32_73 c0_i32_76
  let v193 : BitVec 32 := Scalar.extui v192
  let c0_i32_77 : BitVec 32 := 0#32
  let v194 : BitVec 1 := Scalar.cmpi .slt c8_i32_73 c0_i32_77
  let v195 : BitVec 32 := Scalar.extui v194
  let v196 : BitVec 32 := Scalar.subi v193 v195
  let v197 : BitVec 1 := Scalar.cmpi .ne v191 v196
  let v198 : BitVec 32 := Scalar.remsi v185 c8_i32_73
  let c0_i32_78 : BitVec 32 := 0#32
  let v199 : BitVec 1 := Scalar.cmpi .ne v198 c0_i32_78
  let v200 : BitVec 1 := Scalar.andi v197 v199
  let v186 : BitVec 32 := Scalar.divsi v185 c8_i32_73
  let c1_i32_79 : BitVec 32 := 1#32
  let v201 : BitVec 32 := Scalar.subi v186 c1_i32_79
  let v202 : BitVec 32 := Scalar.select v200 v201 v186
  let c8_i32_86 : BitVec 32 := 8#32
  let v223 : BitVec 32 := Scalar.muli v202 c8_i32_86
  let v224 : Index := Scalar.indexCast v223
  let c0_87 : Index := 0#32
  ![v224.toNat, 0]

def k0_chk9 (i : grid0.Coords) (v86 : BitVec 32) (v87 : BitVec 32) : Prop :=
  (∀ (k0_h10 : k0_cond10 i v86 v87 = 1#1), ∀ a, (k0_off17 i v86) a + S8x512.size a ≤ S1024x512.size a) ∧
  (∀ (k0_h10 : k0_cond10 i v86 v87 = 1#1), ∀ a, (k0_off18 i v87) a + S8x512.size a ≤ S1024x512.size a)
theorem k0_off17_inb : ∀ (i : grid0.Coords) (v86 : BitVec 32) (v87 : BitVec 32) (k0_hw9 : k0_chk9 i v86 v87), ∀ (k0_h10 : k0_cond10 i v86 v87 = 1#1), ∀ a, (k0_off17 i v86) a + S8x512.size a ≤ S1024x512.size a := fun i v86 v87 k0_hw9 k0_h10 => k0_hw9.1 k0_h10
theorem k0_off18_inb : ∀ (i : grid0.Coords) (v86 : BitVec 32) (v87 : BitVec 32) (k0_hw9 : k0_chk9 i v86 v87), ∀ (k0_h10 : k0_cond10 i v86 v87 = 1#1), ∀ a, (k0_off18 i v87) a + S8x512.size a ≤ S1024x512.size a := fun i v86 v87 k0_hw9 k0_h10 => k0_hw9.2 k0_h10

def k0_off19 (i : grid0.Coords) (v94 : BitVec 32) : Fin 2 → Nat :=
  let c1024_i32_60 : BitVec 32 := 1024#32
  let c0_i32_59 : BitVec 32 := 0#32
  let arg0 : BitVec 32 := BitVec.ofNat 32 (i 0).val
  let c1024_i32 : BitVec 32 := 1024#32
  let v17 : BitVec 32 := Scalar.muli arg0 c1024_i32
  let v150 : BitVec 32 := Scalar.subi v94 v17
  let v151 : BitVec 32 := Scalar.maxsi c0_i32_59 v150
  let v152 : BitVec 32 := Scalar.minsi c1024_i32_60 v151
  let c0_i32_67 : BitVec 32 := 0#32
  let v169 : BitVec 1 := Scalar.cmpi .sgt v152 c0_i32_67
  let v170 : BitVec 32 := Scalar.extui v169
  let c0_i32_68 : BitVec 32 := 0#32
  let v171 : BitVec 1 := Scalar.cmpi .slt v152 c0_i32_68
  let v172 : BitVec 32 := Scalar.extui v171
  let v173 : BitVec 32 := Scalar.subi v170 v172
  let c8_i32_66 : BitVec 32 := 8#32
  let c0_i32_69 : BitVec 32 := 0#32
  let v174 : BitVec 1 := Scalar.cmpi .sgt c8_i32_66 c0_i32_69
  let v175 : BitVec 32 := Scalar.extui v174
  let c0_i32_70 : BitVec 32 := 0#32
  let v176 : BitVec 1 := Scalar.cmpi .slt c8_i32_66 c0_i32_70
  let v177 : BitVec 32 := Scalar.extui v176
  let v178 : BitVec 32 := Scalar.subi v175 v177
  let v179 : BitVec 1 := Scalar.cmpi .ne v173 v178
  let v180 : BitVec 32 := Scalar.remsi v152 c8_i32_66
  let c0_i32_71 : BitVec 32 := 0#32
  let v181 : BitVec 1 := Scalar.cmpi .ne v180 c0_i32_71
  let v182 : BitVec 1 := Scalar.andi v179 v181
  let v168 : BitVec 32 := Scalar.divsi v152 c8_i32_66
  let c1_i32 : BitVec 32 := 1#32
  let v183 : BitVec 32 := Scalar.subi v168 c1_i32
  let v184 : BitVec 32 := Scalar.select v182 v183 v168
  let c8_i32_80 : BitVec 32 := 8#32
  let v203 : BitVec 32 := Scalar.muli v184 c8_i32_80
  let v204 : Index := Scalar.indexCast v203
  let c0_81 : Index := 0#32
  ![v204.toNat, 0]
def k0_cond11 (i : grid0.Coords) (v94 : BitVec 32) (v95 : BitVec 32) : BitVec 1 :=
  let arg0 : BitVec 32 := BitVec.ofNat 32 (i 0).val
  let c1024_i32 : BitVec 32 := 1024#32
  let v17 : BitVec 32 := Scalar.muli arg0 c1024_i32
  let v96 : BitVec 1 := Scalar.cmpi .sgt v95 v17
  let c1024_i32_39 : BitVec 32 := 1024#32
  let v97 : BitVec 32 := Scalar.addi v17 c1024_i32_39
  let v98 : BitVec 1 := Scalar.cmpi .slt v94 v97
  let v99 : BitVec 1 := Scalar.andi v96 v98
  let v100 : BitVec 32 := Scalar.extui v99
  let c0_i32_40 : BitVec 32 := 0#32
  let v101 : BitVec 1 := Scalar.cmpi .ne v100 c0_i32_40
  v101

def k0_off20 (i : grid0.Coords) (v95 : BitVec 32) : Fin 2 → Nat :=
  let c1024_i32_62 : BitVec 32 := 1024#32
  let c0_i32_61 : BitVec 32 := 0#32
  let arg0 : BitVec 32 := BitVec.ofNat 32 (i 0).val
  let c1024_i32 : BitVec 32 := 1024#32
  let v17 : BitVec 32 := Scalar.muli arg0 c1024_i32
  let v153 : BitVec 32 := Scalar.subi v95 v17
  let v154 : BitVec 32 := Scalar.maxsi c0_i32_61 v153
  let v155 : BitVec 32 := Scalar.minsi c1024_i32_62 v154
  let c1_i32_72 : BitVec 32 := 1#32
  let v185 : BitVec 32 := Scalar.subi v155 c1_i32_72
  let c0_i32_74 : BitVec 32 := 0#32
  let v187 : BitVec 1 := Scalar.cmpi .sgt v185 c0_i32_74
  let v188 : BitVec 32 := Scalar.extui v187
  let c0_i32_75 : BitVec 32 := 0#32
  let v189 : BitVec 1 := Scalar.cmpi .slt v185 c0_i32_75
  let v190 : BitVec 32 := Scalar.extui v189
  let v191 : BitVec 32 := Scalar.subi v188 v190
  let c8_i32_73 : BitVec 32 := 8#32
  let c0_i32_76 : BitVec 32 := 0#32
  let v192 : BitVec 1 := Scalar.cmpi .sgt c8_i32_73 c0_i32_76
  let v193 : BitVec 32 := Scalar.extui v192
  let c0_i32_77 : BitVec 32 := 0#32
  let v194 : BitVec 1 := Scalar.cmpi .slt c8_i32_73 c0_i32_77
  let v195 : BitVec 32 := Scalar.extui v194
  let v196 : BitVec 32 := Scalar.subi v193 v195
  let v197 : BitVec 1 := Scalar.cmpi .ne v191 v196
  let v198 : BitVec 32 := Scalar.remsi v185 c8_i32_73
  let c0_i32_78 : BitVec 32 := 0#32
  let v199 : BitVec 1 := Scalar.cmpi .ne v198 c0_i32_78
  let v200 : BitVec 1 := Scalar.andi v197 v199
  let v186 : BitVec 32 := Scalar.divsi v185 c8_i32_73
  let c1_i32_79 : BitVec 32 := 1#32
  let v201 : BitVec 32 := Scalar.subi v186 c1_i32_79
  let v202 : BitVec 32 := Scalar.select v200 v201 v186
  let c8_i32_86 : BitVec 32 := 8#32
  let v223 : BitVec 32 := Scalar.muli v202 c8_i32_86
  let v224 : Index := Scalar.indexCast v223
  let c0_87 : Index := 0#32
  ![v224.toNat, 0]

def k0_chk10 (i : grid0.Coords) (v94 : BitVec 32) (v95 : BitVec 32) : Prop :=
  (∀ (k0_h11 : k0_cond11 i v94 v95 = 1#1), ∀ a, (k0_off19 i v94) a + S8x512.size a ≤ S1024x512.size a) ∧
  (∀ (k0_h11 : k0_cond11 i v94 v95 = 1#1), ∀ a, (k0_off20 i v95) a + S8x512.size a ≤ S1024x512.size a)
theorem k0_off19_inb : ∀ (i : grid0.Coords) (v94 : BitVec 32) (v95 : BitVec 32) (k0_hw10 : k0_chk10 i v94 v95), ∀ (k0_h11 : k0_cond11 i v94 v95 = 1#1), ∀ a, (k0_off19 i v94) a + S8x512.size a ≤ S1024x512.size a := fun i v94 v95 k0_hw10 k0_h11 => k0_hw10.1 k0_h11
theorem k0_off20_inb : ∀ (i : grid0.Coords) (v94 : BitVec 32) (v95 : BitVec 32) (k0_hw10 : k0_chk10 i v94 v95), ∀ (k0_h11 : k0_cond11 i v94 v95 = 1#1), ∀ a, (k0_off20 i v95) a + S8x512.size a ≤ S1024x512.size a := fun i v94 v95 k0_hw10 k0_h11 => k0_hw10.2 k0_h11

def k0_off21 (i : grid0.Coords) (v102 : BitVec 32) : Fin 2 → Nat :=
  let c1024_i32_60 : BitVec 32 := 1024#32
  let c0_i32_59 : BitVec 32 := 0#32
  let arg0 : BitVec 32 := BitVec.ofNat 32 (i 0).val
  let c1024_i32 : BitVec 32 := 1024#32
  let v17 : BitVec 32 := Scalar.muli arg0 c1024_i32
  let v150 : BitVec 32 := Scalar.subi v102 v17
  let v151 : BitVec 32 := Scalar.maxsi c0_i32_59 v150
  let v152 : BitVec 32 := Scalar.minsi c1024_i32_60 v151
  let c0_i32_67 : BitVec 32 := 0#32
  let v169 : BitVec 1 := Scalar.cmpi .sgt v152 c0_i32_67
  let v170 : BitVec 32 := Scalar.extui v169
  let c0_i32_68 : BitVec 32 := 0#32
  let v171 : BitVec 1 := Scalar.cmpi .slt v152 c0_i32_68
  let v172 : BitVec 32 := Scalar.extui v171
  let v173 : BitVec 32 := Scalar.subi v170 v172
  let c8_i32_66 : BitVec 32 := 8#32
  let c0_i32_69 : BitVec 32 := 0#32
  let v174 : BitVec 1 := Scalar.cmpi .sgt c8_i32_66 c0_i32_69
  let v175 : BitVec 32 := Scalar.extui v174
  let c0_i32_70 : BitVec 32 := 0#32
  let v176 : BitVec 1 := Scalar.cmpi .slt c8_i32_66 c0_i32_70
  let v177 : BitVec 32 := Scalar.extui v176
  let v178 : BitVec 32 := Scalar.subi v175 v177
  let v179 : BitVec 1 := Scalar.cmpi .ne v173 v178
  let v180 : BitVec 32 := Scalar.remsi v152 c8_i32_66
  let c0_i32_71 : BitVec 32 := 0#32
  let v181 : BitVec 1 := Scalar.cmpi .ne v180 c0_i32_71
  let v182 : BitVec 1 := Scalar.andi v179 v181
  let v168 : BitVec 32 := Scalar.divsi v152 c8_i32_66
  let c1_i32 : BitVec 32 := 1#32
  let v183 : BitVec 32 := Scalar.subi v168 c1_i32
  let v184 : BitVec 32 := Scalar.select v182 v183 v168
  let c8_i32_80 : BitVec 32 := 8#32
  let v203 : BitVec 32 := Scalar.muli v184 c8_i32_80
  let v204 : Index := Scalar.indexCast v203
  let c0_81 : Index := 0#32
  ![v204.toNat, 0]
def k0_cond12 (i : grid0.Coords) (v102 : BitVec 32) (v103 : BitVec 32) : BitVec 1 :=
  let arg0 : BitVec 32 := BitVec.ofNat 32 (i 0).val
  let c1024_i32 : BitVec 32 := 1024#32
  let v17 : BitVec 32 := Scalar.muli arg0 c1024_i32
  let v104 : BitVec 1 := Scalar.cmpi .sgt v103 v17
  let c1024_i32_42 : BitVec 32 := 1024#32
  let v105 : BitVec 32 := Scalar.addi v17 c1024_i32_42
  let v106 : BitVec 1 := Scalar.cmpi .slt v102 v105
  let v107 : BitVec 1 := Scalar.andi v104 v106
  let v108 : BitVec 32 := Scalar.extui v107
  let c0_i32_43 : BitVec 32 := 0#32
  let v109 : BitVec 1 := Scalar.cmpi .ne v108 c0_i32_43
  v109

def k0_off22 (i : grid0.Coords) (v103 : BitVec 32) : Fin 2 → Nat :=
  let c1024_i32_62 : BitVec 32 := 1024#32
  let c0_i32_61 : BitVec 32 := 0#32
  let arg0 : BitVec 32 := BitVec.ofNat 32 (i 0).val
  let c1024_i32 : BitVec 32 := 1024#32
  let v17 : BitVec 32 := Scalar.muli arg0 c1024_i32
  let v153 : BitVec 32 := Scalar.subi v103 v17
  let v154 : BitVec 32 := Scalar.maxsi c0_i32_61 v153
  let v155 : BitVec 32 := Scalar.minsi c1024_i32_62 v154
  let c1_i32_72 : BitVec 32 := 1#32
  let v185 : BitVec 32 := Scalar.subi v155 c1_i32_72
  let c0_i32_74 : BitVec 32 := 0#32
  let v187 : BitVec 1 := Scalar.cmpi .sgt v185 c0_i32_74
  let v188 : BitVec 32 := Scalar.extui v187
  let c0_i32_75 : BitVec 32 := 0#32
  let v189 : BitVec 1 := Scalar.cmpi .slt v185 c0_i32_75
  let v190 : BitVec 32 := Scalar.extui v189
  let v191 : BitVec 32 := Scalar.subi v188 v190
  let c8_i32_73 : BitVec 32 := 8#32
  let c0_i32_76 : BitVec 32 := 0#32
  let v192 : BitVec 1 := Scalar.cmpi .sgt c8_i32_73 c0_i32_76
  let v193 : BitVec 32 := Scalar.extui v192
  let c0_i32_77 : BitVec 32 := 0#32
  let v194 : BitVec 1 := Scalar.cmpi .slt c8_i32_73 c0_i32_77
  let v195 : BitVec 32 := Scalar.extui v194
  let v196 : BitVec 32 := Scalar.subi v193 v195
  let v197 : BitVec 1 := Scalar.cmpi .ne v191 v196
  let v198 : BitVec 32 := Scalar.remsi v185 c8_i32_73
  let c0_i32_78 : BitVec 32 := 0#32
  let v199 : BitVec 1 := Scalar.cmpi .ne v198 c0_i32_78
  let v200 : BitVec 1 := Scalar.andi v197 v199
  let v186 : BitVec 32 := Scalar.divsi v185 c8_i32_73
  let c1_i32_79 : BitVec 32 := 1#32
  let v201 : BitVec 32 := Scalar.subi v186 c1_i32_79
  let v202 : BitVec 32 := Scalar.select v200 v201 v186
  let c8_i32_86 : BitVec 32 := 8#32
  let v223 : BitVec 32 := Scalar.muli v202 c8_i32_86
  let v224 : Index := Scalar.indexCast v223
  let c0_87 : Index := 0#32
  ![v224.toNat, 0]

def k0_chk11 (i : grid0.Coords) (v102 : BitVec 32) (v103 : BitVec 32) : Prop :=
  (∀ (k0_h12 : k0_cond12 i v102 v103 = 1#1), ∀ a, (k0_off21 i v102) a + S8x512.size a ≤ S1024x512.size a) ∧
  (∀ (k0_h12 : k0_cond12 i v102 v103 = 1#1), ∀ a, (k0_off22 i v103) a + S8x512.size a ≤ S1024x512.size a)
theorem k0_off21_inb : ∀ (i : grid0.Coords) (v102 : BitVec 32) (v103 : BitVec 32) (k0_hw11 : k0_chk11 i v102 v103), ∀ (k0_h12 : k0_cond12 i v102 v103 = 1#1), ∀ a, (k0_off21 i v102) a + S8x512.size a ≤ S1024x512.size a := fun i v102 v103 k0_hw11 k0_h12 => k0_hw11.1 k0_h12
theorem k0_off22_inb : ∀ (i : grid0.Coords) (v102 : BitVec 32) (v103 : BitVec 32) (k0_hw11 : k0_chk11 i v102 v103), ∀ (k0_h12 : k0_cond12 i v102 v103 = 1#1), ∀ a, (k0_off22 i v103) a + S8x512.size a ≤ S1024x512.size a := fun i v102 v103 k0_hw11 k0_h12 => k0_hw11.2 k0_h12

def k0_off23 (i : grid0.Coords) (v110 : BitVec 32) : Fin 2 → Nat :=
  let c1024_i32_60 : BitVec 32 := 1024#32
  let c0_i32_59 : BitVec 32 := 0#32
  let arg0 : BitVec 32 := BitVec.ofNat 32 (i 0).val
  let c1024_i32 : BitVec 32 := 1024#32
  let v17 : BitVec 32 := Scalar.muli arg0 c1024_i32
  let v150 : BitVec 32 := Scalar.subi v110 v17
  let v151 : BitVec 32 := Scalar.maxsi c0_i32_59 v150
  let v152 : BitVec 32 := Scalar.minsi c1024_i32_60 v151
  let c0_i32_67 : BitVec 32 := 0#32
  let v169 : BitVec 1 := Scalar.cmpi .sgt v152 c0_i32_67
  let v170 : BitVec 32 := Scalar.extui v169
  let c0_i32_68 : BitVec 32 := 0#32
  let v171 : BitVec 1 := Scalar.cmpi .slt v152 c0_i32_68
  let v172 : BitVec 32 := Scalar.extui v171
  let v173 : BitVec 32 := Scalar.subi v170 v172
  let c8_i32_66 : BitVec 32 := 8#32
  let c0_i32_69 : BitVec 32 := 0#32
  let v174 : BitVec 1 := Scalar.cmpi .sgt c8_i32_66 c0_i32_69
  let v175 : BitVec 32 := Scalar.extui v174
  let c0_i32_70 : BitVec 32 := 0#32
  let v176 : BitVec 1 := Scalar.cmpi .slt c8_i32_66 c0_i32_70
  let v177 : BitVec 32 := Scalar.extui v176
  let v178 : BitVec 32 := Scalar.subi v175 v177
  let v179 : BitVec 1 := Scalar.cmpi .ne v173 v178
  let v180 : BitVec 32 := Scalar.remsi v152 c8_i32_66
  let c0_i32_71 : BitVec 32 := 0#32
  let v181 : BitVec 1 := Scalar.cmpi .ne v180 c0_i32_71
  let v182 : BitVec 1 := Scalar.andi v179 v181
  let v168 : BitVec 32 := Scalar.divsi v152 c8_i32_66
  let c1_i32 : BitVec 32 := 1#32
  let v183 : BitVec 32 := Scalar.subi v168 c1_i32
  let v184 : BitVec 32 := Scalar.select v182 v183 v168
  let c8_i32_80 : BitVec 32 := 8#32
  let v203 : BitVec 32 := Scalar.muli v184 c8_i32_80
  let v204 : Index := Scalar.indexCast v203
  let c0_81 : Index := 0#32
  ![v204.toNat, 0]
def k0_cond13 (i : grid0.Coords) (v110 : BitVec 32) (v111 : BitVec 32) : BitVec 1 :=
  let arg0 : BitVec 32 := BitVec.ofNat 32 (i 0).val
  let c1024_i32 : BitVec 32 := 1024#32
  let v17 : BitVec 32 := Scalar.muli arg0 c1024_i32
  let v112 : BitVec 1 := Scalar.cmpi .sgt v111 v17
  let c1024_i32_45 : BitVec 32 := 1024#32
  let v113 : BitVec 32 := Scalar.addi v17 c1024_i32_45
  let v114 : BitVec 1 := Scalar.cmpi .slt v110 v113
  let v115 : BitVec 1 := Scalar.andi v112 v114
  let v116 : BitVec 32 := Scalar.extui v115
  let c0_i32_46 : BitVec 32 := 0#32
  let v117 : BitVec 1 := Scalar.cmpi .ne v116 c0_i32_46
  v117

def k0_off24 (i : grid0.Coords) (v111 : BitVec 32) : Fin 2 → Nat :=
  let c1024_i32_62 : BitVec 32 := 1024#32
  let c0_i32_61 : BitVec 32 := 0#32
  let arg0 : BitVec 32 := BitVec.ofNat 32 (i 0).val
  let c1024_i32 : BitVec 32 := 1024#32
  let v17 : BitVec 32 := Scalar.muli arg0 c1024_i32
  let v153 : BitVec 32 := Scalar.subi v111 v17
  let v154 : BitVec 32 := Scalar.maxsi c0_i32_61 v153
  let v155 : BitVec 32 := Scalar.minsi c1024_i32_62 v154
  let c1_i32_72 : BitVec 32 := 1#32
  let v185 : BitVec 32 := Scalar.subi v155 c1_i32_72
  let c0_i32_74 : BitVec 32 := 0#32
  let v187 : BitVec 1 := Scalar.cmpi .sgt v185 c0_i32_74
  let v188 : BitVec 32 := Scalar.extui v187
  let c0_i32_75 : BitVec 32 := 0#32
  let v189 : BitVec 1 := Scalar.cmpi .slt v185 c0_i32_75
  let v190 : BitVec 32 := Scalar.extui v189
  let v191 : BitVec 32 := Scalar.subi v188 v190
  let c8_i32_73 : BitVec 32 := 8#32
  let c0_i32_76 : BitVec 32 := 0#32
  let v192 : BitVec 1 := Scalar.cmpi .sgt c8_i32_73 c0_i32_76
  let v193 : BitVec 32 := Scalar.extui v192
  let c0_i32_77 : BitVec 32 := 0#32
  let v194 : BitVec 1 := Scalar.cmpi .slt c8_i32_73 c0_i32_77
  let v195 : BitVec 32 := Scalar.extui v194
  let v196 : BitVec 32 := Scalar.subi v193 v195
  let v197 : BitVec 1 := Scalar.cmpi .ne v191 v196
  let v198 : BitVec 32 := Scalar.remsi v185 c8_i32_73
  let c0_i32_78 : BitVec 32 := 0#32
  let v199 : BitVec 1 := Scalar.cmpi .ne v198 c0_i32_78
  let v200 : BitVec 1 := Scalar.andi v197 v199
  let v186 : BitVec 32 := Scalar.divsi v185 c8_i32_73
  let c1_i32_79 : BitVec 32 := 1#32
  let v201 : BitVec 32 := Scalar.subi v186 c1_i32_79
  let v202 : BitVec 32 := Scalar.select v200 v201 v186
  let c8_i32_86 : BitVec 32 := 8#32
  let v223 : BitVec 32 := Scalar.muli v202 c8_i32_86
  let v224 : Index := Scalar.indexCast v223
  let c0_87 : Index := 0#32
  ![v224.toNat, 0]

def k0_chk12 (i : grid0.Coords) (v110 : BitVec 32) (v111 : BitVec 32) : Prop :=
  (∀ (k0_h13 : k0_cond13 i v110 v111 = 1#1), ∀ a, (k0_off23 i v110) a + S8x512.size a ≤ S1024x512.size a) ∧
  (∀ (k0_h13 : k0_cond13 i v110 v111 = 1#1), ∀ a, (k0_off24 i v111) a + S8x512.size a ≤ S1024x512.size a)
theorem k0_off23_inb : ∀ (i : grid0.Coords) (v110 : BitVec 32) (v111 : BitVec 32) (k0_hw12 : k0_chk12 i v110 v111), ∀ (k0_h13 : k0_cond13 i v110 v111 = 1#1), ∀ a, (k0_off23 i v110) a + S8x512.size a ≤ S1024x512.size a := fun i v110 v111 k0_hw12 k0_h13 => k0_hw12.1 k0_h13
theorem k0_off24_inb : ∀ (i : grid0.Coords) (v110 : BitVec 32) (v111 : BitVec 32) (k0_hw12 : k0_chk12 i v110 v111), ∀ (k0_h13 : k0_cond13 i v110 v111 = 1#1), ∀ a, (k0_off24 i v111) a + S8x512.size a ≤ S1024x512.size a := fun i v110 v111 k0_hw12 k0_h13 => k0_hw12.2 k0_h13

def k0_off25 (i : grid0.Coords) (v118 : BitVec 32) : Fin 2 → Nat :=
  let c1024_i32_60 : BitVec 32 := 1024#32
  let c0_i32_59 : BitVec 32 := 0#32
  let arg0 : BitVec 32 := BitVec.ofNat 32 (i 0).val
  let c1024_i32 : BitVec 32 := 1024#32
  let v17 : BitVec 32 := Scalar.muli arg0 c1024_i32
  let v150 : BitVec 32 := Scalar.subi v118 v17
  let v151 : BitVec 32 := Scalar.maxsi c0_i32_59 v150
  let v152 : BitVec 32 := Scalar.minsi c1024_i32_60 v151
  let c0_i32_67 : BitVec 32 := 0#32
  let v169 : BitVec 1 := Scalar.cmpi .sgt v152 c0_i32_67
  let v170 : BitVec 32 := Scalar.extui v169
  let c0_i32_68 : BitVec 32 := 0#32
  let v171 : BitVec 1 := Scalar.cmpi .slt v152 c0_i32_68
  let v172 : BitVec 32 := Scalar.extui v171
  let v173 : BitVec 32 := Scalar.subi v170 v172
  let c8_i32_66 : BitVec 32 := 8#32
  let c0_i32_69 : BitVec 32 := 0#32
  let v174 : BitVec 1 := Scalar.cmpi .sgt c8_i32_66 c0_i32_69
  let v175 : BitVec 32 := Scalar.extui v174
  let c0_i32_70 : BitVec 32 := 0#32
  let v176 : BitVec 1 := Scalar.cmpi .slt c8_i32_66 c0_i32_70
  let v177 : BitVec 32 := Scalar.extui v176
  let v178 : BitVec 32 := Scalar.subi v175 v177
  let v179 : BitVec 1 := Scalar.cmpi .ne v173 v178
  let v180 : BitVec 32 := Scalar.remsi v152 c8_i32_66
  let c0_i32_71 : BitVec 32 := 0#32
  let v181 : BitVec 1 := Scalar.cmpi .ne v180 c0_i32_71
  let v182 : BitVec 1 := Scalar.andi v179 v181
  let v168 : BitVec 32 := Scalar.divsi v152 c8_i32_66
  let c1_i32 : BitVec 32 := 1#32
  let v183 : BitVec 32 := Scalar.subi v168 c1_i32
  let v184 : BitVec 32 := Scalar.select v182 v183 v168
  let c8_i32_80 : BitVec 32 := 8#32
  let v203 : BitVec 32 := Scalar.muli v184 c8_i32_80
  let v204 : Index := Scalar.indexCast v203
  let c0_81 : Index := 0#32
  ![v204.toNat, 0]
def k0_cond14 (i : grid0.Coords) (v118 : BitVec 32) (v119 : BitVec 32) : BitVec 1 :=
  let arg0 : BitVec 32 := BitVec.ofNat 32 (i 0).val
  let c1024_i32 : BitVec 32 := 1024#32
  let v17 : BitVec 32 := Scalar.muli arg0 c1024_i32
  let v120 : BitVec 1 := Scalar.cmpi .sgt v119 v17
  let c1024_i32_48 : BitVec 32 := 1024#32
  let v121 : BitVec 32 := Scalar.addi v17 c1024_i32_48
  let v122 : BitVec 1 := Scalar.cmpi .slt v118 v121
  let v123 : BitVec 1 := Scalar.andi v120 v122
  let v124 : BitVec 32 := Scalar.extui v123
  let c0_i32_49 : BitVec 32 := 0#32
  let v125 : BitVec 1 := Scalar.cmpi .ne v124 c0_i32_49
  v125

def k0_off26 (i : grid0.Coords) (v119 : BitVec 32) : Fin 2 → Nat :=
  let c1024_i32_62 : BitVec 32 := 1024#32
  let c0_i32_61 : BitVec 32 := 0#32
  let arg0 : BitVec 32 := BitVec.ofNat 32 (i 0).val
  let c1024_i32 : BitVec 32 := 1024#32
  let v17 : BitVec 32 := Scalar.muli arg0 c1024_i32
  let v153 : BitVec 32 := Scalar.subi v119 v17
  let v154 : BitVec 32 := Scalar.maxsi c0_i32_61 v153
  let v155 : BitVec 32 := Scalar.minsi c1024_i32_62 v154
  let c1_i32_72 : BitVec 32 := 1#32
  let v185 : BitVec 32 := Scalar.subi v155 c1_i32_72
  let c0_i32_74 : BitVec 32 := 0#32
  let v187 : BitVec 1 := Scalar.cmpi .sgt v185 c0_i32_74
  let v188 : BitVec 32 := Scalar.extui v187
  let c0_i32_75 : BitVec 32 := 0#32
  let v189 : BitVec 1 := Scalar.cmpi .slt v185 c0_i32_75
  let v190 : BitVec 32 := Scalar.extui v189
  let v191 : BitVec 32 := Scalar.subi v188 v190
  let c8_i32_73 : BitVec 32 := 8#32
  let c0_i32_76 : BitVec 32 := 0#32
  let v192 : BitVec 1 := Scalar.cmpi .sgt c8_i32_73 c0_i32_76
  let v193 : BitVec 32 := Scalar.extui v192
  let c0_i32_77 : BitVec 32 := 0#32
  let v194 : BitVec 1 := Scalar.cmpi .slt c8_i32_73 c0_i32_77
  let v195 : BitVec 32 := Scalar.extui v194
  let v196 : BitVec 32 := Scalar.subi v193 v195
  let v197 : BitVec 1 := Scalar.cmpi .ne v191 v196
  let v198 : BitVec 32 := Scalar.remsi v185 c8_i32_73
  let c0_i32_78 : BitVec 32 := 0#32
  let v199 : BitVec 1 := Scalar.cmpi .ne v198 c0_i32_78
  let v200 : BitVec 1 := Scalar.andi v197 v199
  let v186 : BitVec 32 := Scalar.divsi v185 c8_i32_73
  let c1_i32_79 : BitVec 32 := 1#32
  let v201 : BitVec 32 := Scalar.subi v186 c1_i32_79
  let v202 : BitVec 32 := Scalar.select v200 v201 v186
  let c8_i32_86 : BitVec 32 := 8#32
  let v223 : BitVec 32 := Scalar.muli v202 c8_i32_86
  let v224 : Index := Scalar.indexCast v223
  let c0_87 : Index := 0#32
  ![v224.toNat, 0]

def k0_chk13 (i : grid0.Coords) (v118 : BitVec 32) (v119 : BitVec 32) : Prop :=
  (∀ (k0_h14 : k0_cond14 i v118 v119 = 1#1), ∀ a, (k0_off25 i v118) a + S8x512.size a ≤ S1024x512.size a) ∧
  (∀ (k0_h14 : k0_cond14 i v118 v119 = 1#1), ∀ a, (k0_off26 i v119) a + S8x512.size a ≤ S1024x512.size a)
theorem k0_off25_inb : ∀ (i : grid0.Coords) (v118 : BitVec 32) (v119 : BitVec 32) (k0_hw13 : k0_chk13 i v118 v119), ∀ (k0_h14 : k0_cond14 i v118 v119 = 1#1), ∀ a, (k0_off25 i v118) a + S8x512.size a ≤ S1024x512.size a := fun i v118 v119 k0_hw13 k0_h14 => k0_hw13.1 k0_h14
theorem k0_off26_inb : ∀ (i : grid0.Coords) (v118 : BitVec 32) (v119 : BitVec 32) (k0_hw13 : k0_chk13 i v118 v119), ∀ (k0_h14 : k0_cond14 i v118 v119 = 1#1), ∀ a, (k0_off26 i v119) a + S8x512.size a ≤ S1024x512.size a := fun i v118 v119 k0_hw13 k0_h14 => k0_hw13.2 k0_h14

def k0_off27 (i : grid0.Coords) (v126 : BitVec 32) : Fin 2 → Nat :=
  let c1024_i32_60 : BitVec 32 := 1024#32
  let c0_i32_59 : BitVec 32 := 0#32
  let arg0 : BitVec 32 := BitVec.ofNat 32 (i 0).val
  let c1024_i32 : BitVec 32 := 1024#32
  let v17 : BitVec 32 := Scalar.muli arg0 c1024_i32
  let v150 : BitVec 32 := Scalar.subi v126 v17
  let v151 : BitVec 32 := Scalar.maxsi c0_i32_59 v150
  let v152 : BitVec 32 := Scalar.minsi c1024_i32_60 v151
  let c0_i32_67 : BitVec 32 := 0#32
  let v169 : BitVec 1 := Scalar.cmpi .sgt v152 c0_i32_67
  let v170 : BitVec 32 := Scalar.extui v169
  let c0_i32_68 : BitVec 32 := 0#32
  let v171 : BitVec 1 := Scalar.cmpi .slt v152 c0_i32_68
  let v172 : BitVec 32 := Scalar.extui v171
  let v173 : BitVec 32 := Scalar.subi v170 v172
  let c8_i32_66 : BitVec 32 := 8#32
  let c0_i32_69 : BitVec 32 := 0#32
  let v174 : BitVec 1 := Scalar.cmpi .sgt c8_i32_66 c0_i32_69
  let v175 : BitVec 32 := Scalar.extui v174
  let c0_i32_70 : BitVec 32 := 0#32
  let v176 : BitVec 1 := Scalar.cmpi .slt c8_i32_66 c0_i32_70
  let v177 : BitVec 32 := Scalar.extui v176
  let v178 : BitVec 32 := Scalar.subi v175 v177
  let v179 : BitVec 1 := Scalar.cmpi .ne v173 v178
  let v180 : BitVec 32 := Scalar.remsi v152 c8_i32_66
  let c0_i32_71 : BitVec 32 := 0#32
  let v181 : BitVec 1 := Scalar.cmpi .ne v180 c0_i32_71
  let v182 : BitVec 1 := Scalar.andi v179 v181
  let v168 : BitVec 32 := Scalar.divsi v152 c8_i32_66
  let c1_i32 : BitVec 32 := 1#32
  let v183 : BitVec 32 := Scalar.subi v168 c1_i32
  let v184 : BitVec 32 := Scalar.select v182 v183 v168
  let c8_i32_80 : BitVec 32 := 8#32
  let v203 : BitVec 32 := Scalar.muli v184 c8_i32_80
  let v204 : Index := Scalar.indexCast v203
  let c0_81 : Index := 0#32
  ![v204.toNat, 0]
def k0_cond15 (i : grid0.Coords) (v126 : BitVec 32) (v127 : BitVec 32) : BitVec 1 :=
  let arg0 : BitVec 32 := BitVec.ofNat 32 (i 0).val
  let c1024_i32 : BitVec 32 := 1024#32
  let v17 : BitVec 32 := Scalar.muli arg0 c1024_i32
  let v128 : BitVec 1 := Scalar.cmpi .sgt v127 v17
  let c1024_i32_51 : BitVec 32 := 1024#32
  let v129 : BitVec 32 := Scalar.addi v17 c1024_i32_51
  let v130 : BitVec 1 := Scalar.cmpi .slt v126 v129
  let v131 : BitVec 1 := Scalar.andi v128 v130
  let v132 : BitVec 32 := Scalar.extui v131
  let c0_i32_52 : BitVec 32 := 0#32
  let v133 : BitVec 1 := Scalar.cmpi .ne v132 c0_i32_52
  v133

def k0_off28 (i : grid0.Coords) (v127 : BitVec 32) : Fin 2 → Nat :=
  let c1024_i32_62 : BitVec 32 := 1024#32
  let c0_i32_61 : BitVec 32 := 0#32
  let arg0 : BitVec 32 := BitVec.ofNat 32 (i 0).val
  let c1024_i32 : BitVec 32 := 1024#32
  let v17 : BitVec 32 := Scalar.muli arg0 c1024_i32
  let v153 : BitVec 32 := Scalar.subi v127 v17
  let v154 : BitVec 32 := Scalar.maxsi c0_i32_61 v153
  let v155 : BitVec 32 := Scalar.minsi c1024_i32_62 v154
  let c1_i32_72 : BitVec 32 := 1#32
  let v185 : BitVec 32 := Scalar.subi v155 c1_i32_72
  let c0_i32_74 : BitVec 32 := 0#32
  let v187 : BitVec 1 := Scalar.cmpi .sgt v185 c0_i32_74
  let v188 : BitVec 32 := Scalar.extui v187
  let c0_i32_75 : BitVec 32 := 0#32
  let v189 : BitVec 1 := Scalar.cmpi .slt v185 c0_i32_75
  let v190 : BitVec 32 := Scalar.extui v189
  let v191 : BitVec 32 := Scalar.subi v188 v190
  let c8_i32_73 : BitVec 32 := 8#32
  let c0_i32_76 : BitVec 32 := 0#32
  let v192 : BitVec 1 := Scalar.cmpi .sgt c8_i32_73 c0_i32_76
  let v193 : BitVec 32 := Scalar.extui v192
  let c0_i32_77 : BitVec 32 := 0#32
  let v194 : BitVec 1 := Scalar.cmpi .slt c8_i32_73 c0_i32_77
  let v195 : BitVec 32 := Scalar.extui v194
  let v196 : BitVec 32 := Scalar.subi v193 v195
  let v197 : BitVec 1 := Scalar.cmpi .ne v191 v196
  let v198 : BitVec 32 := Scalar.remsi v185 c8_i32_73
  let c0_i32_78 : BitVec 32 := 0#32
  let v199 : BitVec 1 := Scalar.cmpi .ne v198 c0_i32_78
  let v200 : BitVec 1 := Scalar.andi v197 v199
  let v186 : BitVec 32 := Scalar.divsi v185 c8_i32_73
  let c1_i32_79 : BitVec 32 := 1#32
  let v201 : BitVec 32 := Scalar.subi v186 c1_i32_79
  let v202 : BitVec 32 := Scalar.select v200 v201 v186
  let c8_i32_86 : BitVec 32 := 8#32
  let v223 : BitVec 32 := Scalar.muli v202 c8_i32_86
  let v224 : Index := Scalar.indexCast v223
  let c0_87 : Index := 0#32
  ![v224.toNat, 0]

def k0_chk14 (i : grid0.Coords) (v126 : BitVec 32) (v127 : BitVec 32) : Prop :=
  (∀ (k0_h15 : k0_cond15 i v126 v127 = 1#1), ∀ a, (k0_off27 i v126) a + S8x512.size a ≤ S1024x512.size a) ∧
  (∀ (k0_h15 : k0_cond15 i v126 v127 = 1#1), ∀ a, (k0_off28 i v127) a + S8x512.size a ≤ S1024x512.size a)
theorem k0_off27_inb : ∀ (i : grid0.Coords) (v126 : BitVec 32) (v127 : BitVec 32) (k0_hw14 : k0_chk14 i v126 v127), ∀ (k0_h15 : k0_cond15 i v126 v127 = 1#1), ∀ a, (k0_off27 i v126) a + S8x512.size a ≤ S1024x512.size a := fun i v126 v127 k0_hw14 k0_h15 => k0_hw14.1 k0_h15
theorem k0_off28_inb : ∀ (i : grid0.Coords) (v126 : BitVec 32) (v127 : BitVec 32) (k0_hw14 : k0_chk14 i v126 v127), ∀ (k0_h15 : k0_cond15 i v126 v127 = 1#1), ∀ a, (k0_off28 i v127) a + S8x512.size a ≤ S1024x512.size a := fun i v126 v127 k0_hw14 k0_h15 => k0_hw14.2 k0_h15

def k0_off29 (i : grid0.Coords) (v134 : BitVec 32) : Fin 2 → Nat :=
  let c1024_i32_60 : BitVec 32 := 1024#32
  let c0_i32_59 : BitVec 32 := 0#32
  let arg0 : BitVec 32 := BitVec.ofNat 32 (i 0).val
  let c1024_i32 : BitVec 32 := 1024#32
  let v17 : BitVec 32 := Scalar.muli arg0 c1024_i32
  let v150 : BitVec 32 := Scalar.subi v134 v17
  let v151 : BitVec 32 := Scalar.maxsi c0_i32_59 v150
  let v152 : BitVec 32 := Scalar.minsi c1024_i32_60 v151
  let c0_i32_67 : BitVec 32 := 0#32
  let v169 : BitVec 1 := Scalar.cmpi .sgt v152 c0_i32_67
  let v170 : BitVec 32 := Scalar.extui v169
  let c0_i32_68 : BitVec 32 := 0#32
  let v171 : BitVec 1 := Scalar.cmpi .slt v152 c0_i32_68
  let v172 : BitVec 32 := Scalar.extui v171
  let v173 : BitVec 32 := Scalar.subi v170 v172
  let c8_i32_66 : BitVec 32 := 8#32
  let c0_i32_69 : BitVec 32 := 0#32
  let v174 : BitVec 1 := Scalar.cmpi .sgt c8_i32_66 c0_i32_69
  let v175 : BitVec 32 := Scalar.extui v174
  let c0_i32_70 : BitVec 32 := 0#32
  let v176 : BitVec 1 := Scalar.cmpi .slt c8_i32_66 c0_i32_70
  let v177 : BitVec 32 := Scalar.extui v176
  let v178 : BitVec 32 := Scalar.subi v175 v177
  let v179 : BitVec 1 := Scalar.cmpi .ne v173 v178
  let v180 : BitVec 32 := Scalar.remsi v152 c8_i32_66
  let c0_i32_71 : BitVec 32 := 0#32
  let v181 : BitVec 1 := Scalar.cmpi .ne v180 c0_i32_71
  let v182 : BitVec 1 := Scalar.andi v179 v181
  let v168 : BitVec 32 := Scalar.divsi v152 c8_i32_66
  let c1_i32 : BitVec 32 := 1#32
  let v183 : BitVec 32 := Scalar.subi v168 c1_i32
  let v184 : BitVec 32 := Scalar.select v182 v183 v168
  let c8_i32_80 : BitVec 32 := 8#32
  let v203 : BitVec 32 := Scalar.muli v184 c8_i32_80
  let v204 : Index := Scalar.indexCast v203
  let c0_81 : Index := 0#32
  ![v204.toNat, 0]
def k0_cond16 (i : grid0.Coords) (v134 : BitVec 32) (v135 : BitVec 32) : BitVec 1 :=
  let arg0 : BitVec 32 := BitVec.ofNat 32 (i 0).val
  let c1024_i32 : BitVec 32 := 1024#32
  let v17 : BitVec 32 := Scalar.muli arg0 c1024_i32
  let v136 : BitVec 1 := Scalar.cmpi .sgt v135 v17
  let c1024_i32_54 : BitVec 32 := 1024#32
  let v137 : BitVec 32 := Scalar.addi v17 c1024_i32_54
  let v138 : BitVec 1 := Scalar.cmpi .slt v134 v137
  let v139 : BitVec 1 := Scalar.andi v136 v138
  let v140 : BitVec 32 := Scalar.extui v139
  let c0_i32_55 : BitVec 32 := 0#32
  let v141 : BitVec 1 := Scalar.cmpi .ne v140 c0_i32_55
  v141

def k0_off30 (i : grid0.Coords) (v135 : BitVec 32) : Fin 2 → Nat :=
  let c1024_i32_62 : BitVec 32 := 1024#32
  let c0_i32_61 : BitVec 32 := 0#32
  let arg0 : BitVec 32 := BitVec.ofNat 32 (i 0).val
  let c1024_i32 : BitVec 32 := 1024#32
  let v17 : BitVec 32 := Scalar.muli arg0 c1024_i32
  let v153 : BitVec 32 := Scalar.subi v135 v17
  let v154 : BitVec 32 := Scalar.maxsi c0_i32_61 v153
  let v155 : BitVec 32 := Scalar.minsi c1024_i32_62 v154
  let c1_i32_72 : BitVec 32 := 1#32
  let v185 : BitVec 32 := Scalar.subi v155 c1_i32_72
  let c0_i32_74 : BitVec 32 := 0#32
  let v187 : BitVec 1 := Scalar.cmpi .sgt v185 c0_i32_74
  let v188 : BitVec 32 := Scalar.extui v187
  let c0_i32_75 : BitVec 32 := 0#32
  let v189 : BitVec 1 := Scalar.cmpi .slt v185 c0_i32_75
  let v190 : BitVec 32 := Scalar.extui v189
  let v191 : BitVec 32 := Scalar.subi v188 v190
  let c8_i32_73 : BitVec 32 := 8#32
  let c0_i32_76 : BitVec 32 := 0#32
  let v192 : BitVec 1 := Scalar.cmpi .sgt c8_i32_73 c0_i32_76
  let v193 : BitVec 32 := Scalar.extui v192
  let c0_i32_77 : BitVec 32 := 0#32
  let v194 : BitVec 1 := Scalar.cmpi .slt c8_i32_73 c0_i32_77
  let v195 : BitVec 32 := Scalar.extui v194
  let v196 : BitVec 32 := Scalar.subi v193 v195
  let v197 : BitVec 1 := Scalar.cmpi .ne v191 v196
  let v198 : BitVec 32 := Scalar.remsi v185 c8_i32_73
  let c0_i32_78 : BitVec 32 := 0#32
  let v199 : BitVec 1 := Scalar.cmpi .ne v198 c0_i32_78
  let v200 : BitVec 1 := Scalar.andi v197 v199
  let v186 : BitVec 32 := Scalar.divsi v185 c8_i32_73
  let c1_i32_79 : BitVec 32 := 1#32
  let v201 : BitVec 32 := Scalar.subi v186 c1_i32_79
  let v202 : BitVec 32 := Scalar.select v200 v201 v186
  let c8_i32_86 : BitVec 32 := 8#32
  let v223 : BitVec 32 := Scalar.muli v202 c8_i32_86
  let v224 : Index := Scalar.indexCast v223
  let c0_87 : Index := 0#32
  ![v224.toNat, 0]

def k0_chk15 (i : grid0.Coords) (v134 : BitVec 32) (v135 : BitVec 32) : Prop :=
  (∀ (k0_h16 : k0_cond16 i v134 v135 = 1#1), ∀ a, (k0_off29 i v134) a + S8x512.size a ≤ S1024x512.size a) ∧
  (∀ (k0_h16 : k0_cond16 i v134 v135 = 1#1), ∀ a, (k0_off30 i v135) a + S8x512.size a ≤ S1024x512.size a)
theorem k0_off29_inb : ∀ (i : grid0.Coords) (v134 : BitVec 32) (v135 : BitVec 32) (k0_hw15 : k0_chk15 i v134 v135), ∀ (k0_h16 : k0_cond16 i v134 v135 = 1#1), ∀ a, (k0_off29 i v134) a + S8x512.size a ≤ S1024x512.size a := fun i v134 v135 k0_hw15 k0_h16 => k0_hw15.1 k0_h16
theorem k0_off30_inb : ∀ (i : grid0.Coords) (v134 : BitVec 32) (v135 : BitVec 32) (k0_hw15 : k0_chk15 i v134 v135), ∀ (k0_h16 : k0_cond16 i v134 v135 = 1#1), ∀ a, (k0_off30 i v135) a + S8x512.size a ≤ S1024x512.size a := fun i v134 v135 k0_hw15 k0_h16 => k0_hw15.2 k0_h16

def k0_off31 (i : grid0.Coords) (v142 : BitVec 32) : Fin 2 → Nat :=
  let c1024_i32_60 : BitVec 32 := 1024#32
  let c0_i32_59 : BitVec 32 := 0#32
  let arg0 : BitVec 32 := BitVec.ofNat 32 (i 0).val
  let c1024_i32 : BitVec 32 := 1024#32
  let v17 : BitVec 32 := Scalar.muli arg0 c1024_i32
  let v150 : BitVec 32 := Scalar.subi v142 v17
  let v151 : BitVec 32 := Scalar.maxsi c0_i32_59 v150
  let v152 : BitVec 32 := Scalar.minsi c1024_i32_60 v151
  let c0_i32_67 : BitVec 32 := 0#32
  let v169 : BitVec 1 := Scalar.cmpi .sgt v152 c0_i32_67
  let v170 : BitVec 32 := Scalar.extui v169
  let c0_i32_68 : BitVec 32 := 0#32
  let v171 : BitVec 1 := Scalar.cmpi .slt v152 c0_i32_68
  let v172 : BitVec 32 := Scalar.extui v171
  let v173 : BitVec 32 := Scalar.subi v170 v172
  let c8_i32_66 : BitVec 32 := 8#32
  let c0_i32_69 : BitVec 32 := 0#32
  let v174 : BitVec 1 := Scalar.cmpi .sgt c8_i32_66 c0_i32_69
  let v175 : BitVec 32 := Scalar.extui v174
  let c0_i32_70 : BitVec 32 := 0#32
  let v176 : BitVec 1 := Scalar.cmpi .slt c8_i32_66 c0_i32_70
  let v177 : BitVec 32 := Scalar.extui v176
  let v178 : BitVec 32 := Scalar.subi v175 v177
  let v179 : BitVec 1 := Scalar.cmpi .ne v173 v178
  let v180 : BitVec 32 := Scalar.remsi v152 c8_i32_66
  let c0_i32_71 : BitVec 32 := 0#32
  let v181 : BitVec 1 := Scalar.cmpi .ne v180 c0_i32_71
  let v182 : BitVec 1 := Scalar.andi v179 v181
  let v168 : BitVec 32 := Scalar.divsi v152 c8_i32_66
  let c1_i32 : BitVec 32 := 1#32
  let v183 : BitVec 32 := Scalar.subi v168 c1_i32
  let v184 : BitVec 32 := Scalar.select v182 v183 v168
  let c8_i32_80 : BitVec 32 := 8#32
  let v203 : BitVec 32 := Scalar.muli v184 c8_i32_80
  let v204 : Index := Scalar.indexCast v203
  let c0_81 : Index := 0#32
  ![v204.toNat, 0]
def k0_cond17 (i : grid0.Coords) (v142 : BitVec 32) (v143 : BitVec 32) : BitVec 1 :=
  let arg0 : BitVec 32 := BitVec.ofNat 32 (i 0).val
  let c1024_i32 : BitVec 32 := 1024#32
  let v17 : BitVec 32 := Scalar.muli arg0 c1024_i32
  let v144 : BitVec 1 := Scalar.cmpi .sgt v143 v17
  let c1024_i32_57 : BitVec 32 := 1024#32
  let v145 : BitVec 32 := Scalar.addi v17 c1024_i32_57
  let v146 : BitVec 1 := Scalar.cmpi .slt v142 v145
  let v147 : BitVec 1 := Scalar.andi v144 v146
  let v148 : BitVec 32 := Scalar.extui v147
  let c0_i32_58 : BitVec 32 := 0#32
  let v149 : BitVec 1 := Scalar.cmpi .ne v148 c0_i32_58
  v149

def k0_off32 (i : grid0.Coords) (v143 : BitVec 32) : Fin 2 → Nat :=
  let c1024_i32_62 : BitVec 32 := 1024#32
  let c0_i32_61 : BitVec 32 := 0#32
  let arg0 : BitVec 32 := BitVec.ofNat 32 (i 0).val
  let c1024_i32 : BitVec 32 := 1024#32
  let v17 : BitVec 32 := Scalar.muli arg0 c1024_i32
  let v153 : BitVec 32 := Scalar.subi v143 v17
  let v154 : BitVec 32 := Scalar.maxsi c0_i32_61 v153
  let v155 : BitVec 32 := Scalar.minsi c1024_i32_62 v154
  let c1_i32_72 : BitVec 32 := 1#32
  let v185 : BitVec 32 := Scalar.subi v155 c1_i32_72
  let c0_i32_74 : BitVec 32 := 0#32
  let v187 : BitVec 1 := Scalar.cmpi .sgt v185 c0_i32_74
  let v188 : BitVec 32 := Scalar.extui v187
  let c0_i32_75 : BitVec 32 := 0#32
  let v189 : BitVec 1 := Scalar.cmpi .slt v185 c0_i32_75
  let v190 : BitVec 32 := Scalar.extui v189
  let v191 : BitVec 32 := Scalar.subi v188 v190
  let c8_i32_73 : BitVec 32 := 8#32
  let c0_i32_76 : BitVec 32 := 0#32
  let v192 : BitVec 1 := Scalar.cmpi .sgt c8_i32_73 c0_i32_76
  let v193 : BitVec 32 := Scalar.extui v192
  let c0_i32_77 : BitVec 32 := 0#32
  let v194 : BitVec 1 := Scalar.cmpi .slt c8_i32_73 c0_i32_77
  let v195 : BitVec 32 := Scalar.extui v194
  let v196 : BitVec 32 := Scalar.subi v193 v195
  let v197 : BitVec 1 := Scalar.cmpi .ne v191 v196
  let v198 : BitVec 32 := Scalar.remsi v185 c8_i32_73
  let c0_i32_78 : BitVec 32 := 0#32
  let v199 : BitVec 1 := Scalar.cmpi .ne v198 c0_i32_78
  let v200 : BitVec 1 := Scalar.andi v197 v199
  let v186 : BitVec 32 := Scalar.divsi v185 c8_i32_73
  let c1_i32_79 : BitVec 32 := 1#32
  let v201 : BitVec 32 := Scalar.subi v186 c1_i32_79
  let v202 : BitVec 32 := Scalar.select v200 v201 v186
  let c8_i32_86 : BitVec 32 := 8#32
  let v223 : BitVec 32 := Scalar.muli v202 c8_i32_86
  let v224 : Index := Scalar.indexCast v223
  let c0_87 : Index := 0#32
  ![v224.toNat, 0]

def k0_chk16 (i : grid0.Coords) (v142 : BitVec 32) (v143 : BitVec 32) : Prop :=
  (∀ (k0_h17 : k0_cond17 i v142 v143 = 1#1), ∀ a, (k0_off31 i v142) a + S8x512.size a ≤ S1024x512.size a) ∧
  (∀ (k0_h17 : k0_cond17 i v142 v143 = 1#1), ∀ a, (k0_off32 i v143) a + S8x512.size a ≤ S1024x512.size a)
theorem k0_off31_inb : ∀ (i : grid0.Coords) (v142 : BitVec 32) (v143 : BitVec 32) (k0_hw16 : k0_chk16 i v142 v143), ∀ (k0_h17 : k0_cond17 i v142 v143 = 1#1), ∀ a, (k0_off31 i v142) a + S8x512.size a ≤ S1024x512.size a := fun i v142 v143 k0_hw16 k0_h17 => k0_hw16.1 k0_h17
theorem k0_off32_inb : ∀ (i : grid0.Coords) (v142 : BitVec 32) (v143 : BitVec 32) (k0_hw16 : k0_chk16 i v142 v143), ∀ (k0_h17 : k0_cond17 i v142 v143 = 1#1), ∀ a, (k0_off32 i v143) a + S8x512.size a ≤ S1024x512.size a := fun i v142 v143 k0_hw16 k0_h17 => k0_hw16.2 k0_h17

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S500x500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S16384x1024 : Shape := ⟨2, ![16384, 1024]⟩
abbrev S17 : Shape := ⟨1, ![17]⟩
abbrev S500x1024 : Shape := ⟨2, ![500, 1024]⟩
abbrev S500 : Shape := ⟨1, ![500]⟩
abbrev S500x500 : Shape := ⟨2, ![500, 500]⟩
abbrev S1024x500 : Shape := ⟨2, ![1024, 500]⟩
abbrev S16384x500 : Shape := ⟨2, ![16384, 500]⟩
abbrev S1x500 : Shape := ⟨2, ![1, 500]⟩
abbrev S_ : Shape := ⟨0, ![]⟩
abbrev S16384 : Shape := ⟨1, ![16384]⟩
abbrev S1x17 : Shape := ⟨2, ![1, 17]⟩
abbrev S16384x1 : Shape := ⟨2, ![16384, 1]⟩
abbrev S16384x17 : Shape := ⟨2, ![16384, 17]⟩
abbrev S1x16384 : Shape := ⟨2, ![1, 16384]⟩
abbrev S16 : Shape := ⟨1, ![16]⟩
abbrev S16x1 : Shape := ⟨2, ![16, 1]⟩
abbrev S16x16384 : Shape := ⟨2, ![16, 16384]⟩
abbrev S16x16384x1 : Shape := ⟨3, ![16, 16384, 1]⟩
abbrev S1x16384x500 : Shape := ⟨3, ![1, 16384, 500]⟩
abbrev S16x16384x500 : Shape := ⟨3, ![16, 16384, 500]⟩
abbrev S16x500 : Shape := ⟨2, ![16, 500]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S17, .i32⟩
  | .hbm, ⟨2, _⟩ => ⟨S500x1024, .f32⟩
  | .hbm, ⟨3, _⟩ => ⟨S500, .f32⟩
  | .hbm, ⟨4, _⟩ => ⟨S500x500, .f32⟩
  | .hbm, ⟨5, _⟩ => ⟨S500, .f32⟩
  | .hbm, ⟨6, _⟩ => ⟨S1024x500, .f32⟩
  | .hbm, ⟨7, _⟩ => ⟨S16384x500, .f32⟩
  | .hbm, ⟨8, _⟩ => ⟨S1x500, .f32⟩
  | .hbm, ⟨9, _⟩ => ⟨S16384x500, .f32⟩
  | .hbm, ⟨10, _⟩ => ⟨S16384x500, .f32⟩
  | .hbm, ⟨11, _⟩ => ⟨S_, .f32⟩
  | .hbm, ⟨12, _⟩ => ⟨S16384x500, .f32⟩
  | .hbm, ⟨13, _⟩ => ⟨S16384x500, .f32⟩
  | .hbm, ⟨14, _⟩ => ⟨S500x500, .f32⟩
  | .hbm, ⟨15, _⟩ => ⟨S16384x500, .f32⟩
  | .hbm, ⟨16, _⟩ => ⟨S1x500, .f32⟩
  | .hbm, ⟨17, _⟩ => ⟨S16384x500, .f32⟩
  | .hbm, ⟨18, _⟩ => ⟨S16384x500, .f32⟩
  | .hbm, ⟨19, _⟩ => ⟨S16384, .i32⟩
  | .hbm, ⟨20, _⟩ => ⟨S1x17, .i32⟩
  | .hbm, ⟨21, _⟩ => ⟨S16384x1, .i32⟩
  | .hbm, ⟨22, _⟩ => ⟨S16384x17, .i32⟩
  | .hbm, ⟨23, _⟩ => ⟨S16384x17, .i32⟩
  | .hbm, ⟨24, _⟩ => ⟨S16384x17, .i1⟩
  | .hbm, ⟨25, _⟩ => ⟨S16384x17, .i32⟩
  | .hbm, ⟨26, _⟩ => ⟨S_, .i32⟩
  | .hbm, ⟨27, _⟩ => ⟨S16384, .i32⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S16384, .i1⟩
  | .hbm, ⟨38, _⟩ => ⟨S1x16384, .i1⟩
  | .hbm, ⟨39, _⟩ => ⟨S1x16384, .i32⟩
  | .hbm, ⟨40, _⟩ => ⟨S16, .i32⟩
  | .hbm, ⟨41, _⟩ => ⟨S16x1, .i32⟩
  | .hbm, ⟨42, _⟩ => ⟨S16x16384, .i32⟩
  | .hbm, ⟨43, _⟩ => ⟨S16x16384, .i32⟩
  | .hbm, ⟨44, _⟩ => ⟨S16x16384, .i1⟩
  | .hbm, ⟨45, _⟩ => ⟨S16x16384, .i1⟩
  | .hbm, ⟨46, _⟩ => ⟨S16x16384, .i1⟩
  | .hbm, ⟨47, _⟩ => ⟨S16x16384x1, .i1⟩
  | .hbm, ⟨48, _⟩ => ⟨S1x16384x500, .f32⟩
  | .hbm, ⟨49, _⟩ => ⟨S_, .f32⟩
  | .hbm, ⟨50, _⟩ => ⟨S_, .f32⟩
  | .hbm, ⟨51, _⟩ => ⟨S16x16384x500, .i1⟩
  | .hbm, ⟨52, _⟩ => ⟨S16x16384x500, .f32⟩
  | .hbm, ⟨53, _⟩ => ⟨S16x16384x500, .f32⟩
  | .hbm, ⟨54, _⟩ => ⟨S16x16384x500, .f32⟩
  | .hbm, ⟨55, _⟩ => ⟨S_, .f32⟩
  | .hbm, ⟨56, _⟩ => ⟨S16x500, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_c_0 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== Proof.Segment.lean ====
/-
  One segment of the fused kernel, stated once for the sixteen: the words of the table that bound it, the side
  condition of its two boundary blocks, and the update of its row of the result, each as a rule of the program
  logic over any program that follows. The printed body is sixteen such steps one after another.
-/
module

public import proofs.«01_k».proof.Proof.Gen.KernelIdeal.Skeleton
public import proofs.«01_k».proof.Proof.Gen.KernelIdeal.Launch
public import Idealize.ShloMosaic.Lib.Pipeline.FrameSuffix
public import Idealize.ShloMosaic.Lib.Pipeline.FrameBody
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- The programs of the body. -/
abbrev P (F : FTy → Type) (α : Type) : Type 1 := Prog (TpuEff nD τ sig (Elt F) Λ₀ .tc) α

/-! ## The rows and the words -/

/-- Row `s` of the result lies in it. -/
theorem inb_row (s : Fin 16) : ∀ a, (![s.val, 0] : Fin 2 → Nat) a + S1x512.size a ≤ S16x512.size a := by
  revert s; decide

/-- Word `k` of the table lies in it. -/
theorem inb_word (k : Fin 17) : ∀ a, (![k.val] : Fin 1 → Nat) a + S1.size a ≤ S17.size a := by
  revert k; decide

/-- Row `s` of the result. -/
abbrev rowRect (s : Fin 16) : Rect S16x512 := Rect.unit (s := S16x512) ![s.val, 0] S1x512.size (inb_row s)

/-- The place of word `k` of the table. -/
abbrev wordRect (k : Fin 17) : Rect S17 := Rect.unit (s := S17) ![k.val] S1.size (inb_word k)

/-! ## The update of a row -/

/-- A bound of a segment, counted from the tile's first row `v17` and cut to the tile. -/
def locW (w v17 : BitVec 32) : BitVec 32 := Scalar.minsi 1024#32 (Scalar.maxsi 0#32 (Scalar.subi w v17))

/-- The sign of a word. -/
def sgnW (w : BitVec 32) : BitVec 32 :=
  Scalar.subi (Scalar.extui (Scalar.cmpi .sgt w 0#32)) (Scalar.extui (Scalar.cmpi .slt w 0#32))

/-- A word divided by eight, rounded down. -/
def fdiv8 (w : BitVec 32) : BitVec 32 :=
  Scalar.select
    (Scalar.andi
      (Scalar.cmpi .ne (sgnW w) (Scalar.subi (Scalar.extui (Scalar.cmpi .sgt 8#32 0#32)) (Scalar.extui (Scalar.cmpi .slt 8#32 0#32))))
      (Scalar.cmpi .ne (Scalar.remsi w 8#32) 0#32))
    (Scalar.subi (Scalar.divsi w 8#32) 1#32) (Scalar.divsi w 8#32)

/-- What a row becomes: `r` with the tile's maximum over the segment `lo ≤ t < hi`, from the tile `Y`, the maxima
    `v16` of its groups of eight rows, and the positions `v20`, `v21`. -/
def rowNew (v16 : FVec F S128x512 .f32) (v17 : BitVec 32) (v20 : IVec S128x1 32) (v21 : IVec S8x1 32)
    (lo hi : BitVec 32) (A B : Vec F S8x512 .f32) (r : Vec F S1x512 .f32) : FVec F S1x512 .f32 :=
  k0_pay58 (k0_pay4 v21 (locW lo v17) (locW hi v17) (k0_pay3 v16 v17 v20 lo hi) (fdiv8 (locW lo v17)) A) B
    (k0_pay5 v21 (locW lo v17) (locW hi v17) (Scalar.subi (locW hi v17) 1#32) 8#32
      (Scalar.divsi (Scalar.subi (locW hi v17) 1#32) 8#32) (sgnW (Scalar.subi (locW hi v17) 1#32)))
    (Scalar.ofBits .f32 0xFF800000#32) r

section Prog

variable (i : grid0.Coords) (arg1 : Memref sig .tc .smem S17 .i32) (harg1 : arg1.IsWhole)
  (arg2 : Memref sig .tc .vmem S1024x1024 .f32) (harg2 : arg2.IsWhole) (arg3 : Memref sig .tc .vmem S500x1024 .f32) (harg3 : arg3.IsWhole)
  (arg4 : Memref sig .tc .vmem S500x500 .f32) (harg4 : arg4.IsWhole) (arg5 : Memref sig .tc .vmem S16x512 .f32) (harg5 : arg5.IsWhole)
  (arg6 : Memref sig .tc .vmem S1024x512 .bf16) (harg6 : arg6.IsWhole) (arg7 : Memref sig .tc .vmem S512x512 .bf16) (harg7 : arg7.IsWhole)
  (arg8 : Memref sig .tc .vmem S1024x512 .f32) (harg8 : arg8.IsWhole)

/-- The update of row `s` under its condition, followed by the program `K`. -/
def segP {α : Type} (s : Fin 16) (v16 : FVec F S128x512 .f32) (v17 : BitVec 32) (v20 : IVec S128x1 32) (v21 : IVec S8x1 32)
    (lo hi : BitVec 32) (hw : k0_chk1 i lo hi) (K : PUnit.{1} → P F α) : P F α :=
  if h : k0_cond2 i lo hi = 1#1 then do
    let ⟨v152, v155, v167, v184, v185, c8, v186, v191⟩ ← k0_part1 i arg1 harg1 arg2 harg2 arg3 harg3 arg4 harg4 arg5 harg5 arg6 harg6 arg7 harg7 arg8 harg8 v16 v17 v20 lo hi
    let ⟨v222, v225, v236, cst⟩ ← k0_part2 i arg1 harg1 arg2 harg2 arg3 harg3 arg4 harg4 arg5 harg5 arg6 harg6 arg7 harg7 arg8 harg8 v21 lo hi hw h v152 v155 v167 v184 v185 c8 v186 v191
    let v243 : Vec F S1x512 .f32 ← Prog.lift (.load arg5 (rowRect s).toLoadRect (View.loadsAt_vmem h_S1x512))
    let _ : Vec F S1x512 .f32 ← Prog.lift (.load arg5 (rowRect s).toLoadRect (View.loadsAt_vmem h_S1x512))
    Prog.lift (.store arg5 (rowRect s) (k0_pay58 v222 v225 v236 cst v243) Finset.univ (View.stores_vmem_bits_univ h_S1x512 rfl) (.inl rfl))
    K ⟨⟩
  else K ⟨⟩

/-- The two words that bound segment `s`, its side condition, then the program `K` of them. -/
def headP {α : Type} (s : Fin 16) (K : (lo hi : BitVec 32) → k0_chk1 i lo hi → P F α) : P F α := do
  let lo : Elt F .i32 ← smemLoad arg1 (wordRect s.castSucc) numel1_S1 rfl
  let hi : Elt F .i32 ← smemLoad arg1 (wordRect s.succ) numel1_S1 rfl
  let h ← Prog.lift (TpuEff.assume (k0_chk1 i lo hi) (k0_chk1.dec i lo hi))
  K lo hi h.down

end Prog

/-! ## What the body holds -/

/-- Word `k` of the table. -/
def tword (T : S17.Idx → Elt F .i32) (k : Fin 17) : BitVec 32 :=
  T ((wordRect k).idx (Shape.Idx.first (numel1_S1.symm ▸ Nat.one_pos)))

/-- What row `s` of the result becomes in the segment `lo ≤ t < hi`, where the segment meets the tile. -/
def segUpd (i : grid0.Coords) (v16 : FVec F S128x512 .f32) (v17 : BitVec 32) (v20 : IVec S128x1 32) (v21 : IVec S8x1 32)
    (Y : S1024x512.Idx → Elt F .f32) (s : Fin 16) (lo hi : BitVec 32) (hw : k0_chk1 i lo hi) (X : S16x512.Idx → Elt F .f32) :
    S16x512.Idx → Elt F .f32 :=
  if h : k0_cond2 i lo hi = 1#1 then
    (rowRect s).overlay X (rowNew v16 v17 v20 v21 lo hi
      (View.ld Y (Rect.unit (s := S1024x512) (k0_off1 i lo) S8x512.size (k0_off1_inb i lo hi hw h)))
      (View.ld Y (Rect.unit (s := S1024x512) (k0_off2 i hi) S8x512.size (k0_off2_inb i lo hi hw h)))
      (View.ld X (rowRect s)))
  else X

section Rules

variable (c : Dev nD) (i : grid0.Coords) (arg1 : Memref sig .tc .smem S17 .i32) (harg1 : arg1.IsWhole)
  (arg2 : Memref sig .tc .vmem S1024x1024 .f32) (harg2 : arg2.IsWhole) (arg3 : Memref sig .tc .vmem S500x1024 .f32) (harg3 : arg3.IsWhole)
  (arg4 : Memref sig .tc .vmem S500x500 .f32) (harg4 : arg4.IsWhole) (arg5 : Memref sig .tc .vmem S16x512 .f32) (harg5 : arg5.IsWhole)
  (arg6 : Memref sig .tc .vmem S1024x512 .bf16) (harg6 : arg6.IsWhole) (arg7 : Memref sig .tc .vmem S512x512 .bf16) (harg7 : arg7.IsWhole)
  (arg8 : Memref sig .tc .vmem S1024x512 .f32) (harg8 : arg8.IsWhole)

/-- What the segments run over: the table `T`, the tile's rows `Y`, the result `X`, and a rest that they leave alone. -/
def St (q : PosShare TreeShare) (T : S17.Idx → Elt F .i32) (Y : S1024x512.Idx → Elt F .f32) (G : sProp 𝕄)
    (X : S16x512.Idx → Elt F .f32) : sProp 𝕄 :=
  iprop(owns (c : Thread nD τ) arg1 q T ∗ owns (c : Thread nD τ) arg8 fullShare Y ∗ owns (c : Thread nD τ) arg5 fullShare X ∗ G)

variable (q : PosShare TreeShare) (T : S17.Idx → Elt F .i32) (Y : S1024x512.Idx → Elt F .f32)
  (X : S16x512.Idx → Elt F .f32) {α : Type}

/-- A buffer written at a rectangle reads what it read, with the payload laid over it there. -/
theorem read_write_row {sp : Space} {S : Shape} {e : EltTy} (v : View sig .tc sp S e) (f : v.ty.Contents (Elt F)) (r : Rect S)
    (w : r.shape.Idx → Elt F e) : v.read (Elt F) (v.writes (Elt F) f [⟨r, w⟩]) = r.overlay (v.read (Elt F) f) w := by
  funext y
  by_cases hy : y ∈ r.set
  · obtain ⟨x, rfl⟩ : ∃ x, r.emb x = y := r.exists_idx_of_mem hy
    rw [View.read_writes_cons_emb, r.overlay_emb]
  · rw [View.read_writes_cons_miss v f ⟨r, w⟩ [] y hy, r.overlay_of_not_mem _ _ hy]; rfl

/-- Reading a word of the table. -/
theorem wp_word (G : sProp 𝕄) (k : Fin 17) (K : BitVec 32 → P F α) (Q : α → sProp 𝕄)
    (H : St c arg1 arg5 arg8 q T Y G X ⊢ wp frame (wpE (defs₀ (F := F)) Variants.none c none) Set.univ (K (tword T k)) Q) :
    St c arg1 arg5 arg8 q T Y G X
      ⊢ wp frame (wpE (defs₀ (F := F)) Variants.none c none) Set.univ (smemLoad arg1 (wordRect k) numel1_S1 rfl >>= K) Q := by
  unfold St owns at *
  iintro ⟨⟨%f1, %h1, H1⟩, ⟨%f8, %h8, H8⟩, ⟨%f5, %h5, H5⟩, HG⟩
  sl_exec
  subst h1
  rw [show wp_word.sl.r c arg1 k f1 = tword (View.read (Elt F) arg1.view f1) k from rfl]
  iapply H
  isplitl [H1]
  · iexists _; isplitr; swap; · iexact H1
    ipureintro; rfl
  isplitl [H8]
  · iexists _; isplitr; · ipureintro; exact h8
    iexact H8
  isplitl [H5]
  · iexists _; isplitr; · ipureintro; exact h5
    iexact H5
  iexact HG

/-- Checking the side condition of a segment. -/
theorem wp_check (G : sProp 𝕄) (lo hi : BitVec 32) (hw : k0_chk1 i lo hi) (K : PLift (k0_chk1 i lo hi) → P F α) (Q : α → sProp 𝕄)
    (H : St c arg1 arg5 arg8 q T Y G X ⊢ wp frame (wpE (defs₀ (F := F)) Variants.none c none) Set.univ (K ⟨hw⟩) Q) :
    St c arg1 arg5 arg8 q T Y G X
      ⊢ wp frame (wpE (defs₀ (F := F)) Variants.none c none) Set.univ
          (Prog.lift (TpuEff.assume (k0_chk1 i lo hi) (k0_chk1.dec i lo hi)) >>= K) Q := by
  iintro HS
  sl_exec (disch := exact hw)
  iapply H; iexact HS

/-- The update of a row. -/
theorem wp_seg (G : sProp 𝕄) (s : Fin 16) (v16 : FVec F S128x512 .f32) (v17 : BitVec 32) (v20 : IVec S128x1 32) (v21 : IVec S8x1 32)
    (lo hi : BitVec 32) (hw : k0_chk1 i lo hi) (K : PUnit.{1} → P F α) (Q : α → sProp 𝕄)
    (H : St c arg1 arg5 arg8 q T Y G (segUpd i v16 v17 v20 v21 Y s lo hi hw X)
      ⊢ wp frame (wpE (defs₀ (F := F)) Variants.none c none) Set.univ (K ⟨⟩) Q) :
    St c arg1 arg5 arg8 q T Y G X
      ⊢ wp frame (wpE (defs₀ (F := F)) Variants.none c none) Set.univ
          (segP i arg1 harg1 arg2 harg2 arg3 harg3 arg4 harg4 arg5 harg5 arg6 harg6 arg7 harg7 arg8 harg8 s v16 v17 v20 v21 lo hi hw K) Q := by
  unfold segP segUpd at *
  split
  · rename_i h
    rw [dif_pos h] at H
    unfold St owns at *
    iintro ⟨⟨%f1, %h1, H1⟩, ⟨%f8, %h8, H8⟩, ⟨%f5, %h5, H5⟩, HG⟩
    simp only [k0_part1_eq_skeleton, k0_part2_eq_skeleton]
    sl_exec
    iapply H
    isplitl [H1]
    · iexists _; isplitr; · ipureintro; exact h1
      iexact H1
    isplitl [H8]
    · iexists _; isplitr; · ipureintro; exact h8
      iexact H8
    isplitl [H5]
    · iexists _; isplitr; swap; · iexact H5
      ipureintro
      subst h5 h8
      exact read_write_row _ _ _ _
    iexact HG
  · rename_i h
    rw [dif_neg h] at H
    exact H

end Rules

end Cert.KernelIdeal.Hand

end
-- ==== Proof.Words.lean ====
/-
  The words of the kernel as integers: a segment's bounds counted from the tile's first row and cut to the tile,
  the blocks of eight rows they fall in, when a segment meets a tile, and that the two boundary blocks then lie in
  the tile. All of it for bounds that are no negative numbers.
-/
module

public import proofs.«01_k».proof.Proof.Segment
public import Idealize.ShloMosaic.Lib.Affine

@[expose] public section

namespace Cert.KernelIdeal.Hand

open Cert.KernelIdeal Cert.KernelIdeal.Gen
open Idealize.ShloMosaic Idealize.ShloMosaic.TcCoe

/-- A word known to hold an integer, read as one. -/
theorem toInt_of {x : BitVec 32} {e : Int} (h : Affine.IsInt x e) : x.toInt = e := by
  unfold Affine.IsInt at h; exact h

/-- A word that reads as an integer holds it. -/
theorem isInt_of {x : BitVec 32} {e : Int} (h : x.toInt = e) : Affine.IsInt x e := by
  unfold Affine.IsInt; exact h

/-- A word is below 2³¹. -/
theorem word_lt (x : BitVec 32) : x.toInt < 2147483648 := by
  have := (Affine.word_range x).2; omega

/-- The tile's first row, as the kernel computes it. -/
abbrev row0 (i : grid0.Coords) : BitVec 32 := Scalar.muli (BitVec.ofNat 32 (i 0).val) 1024#32

/-- There are sixteen tiles. -/
theorem coord_lt (i : grid0.Coords) : (i 0).val < 16 := (i 0).isLt

/-- The first row of a tile does not wrap. -/
theorem isInt_row0 (i : grid0.Coords) : Affine.IsInt (row0 i) (1024 * ((i 0).val : Int)) := by
  have h := coord_lt i
  refine Affine.muli (Affine.ofNat _ (e := ((i 0).val : Int)) ?_) (Affine.ofNat _ (e := 1024) ?_) ?_ <;> omega

/-- The first row of a tile: 1024 times its number. -/
theorem row0_toInt (i : grid0.Coords) : (row0 i).toInt = 1024 * ((i 0).val : Int) := toInt_of (isInt_row0 i)

/-! ## A bound, counted from the tile's first row and cut to the tile -/

/-- The bound `w` counted from row `1024 i` and cut to `0 … 1024`. -/
def loc (i : grid0.Coords) (w : BitVec 32) : Nat := (min 1024 (max 0 (w.toInt - 1024 * ((i 0).val : Int)))).toNat

/-- A bound cut to the tile is at most the height of the tile. -/
theorem loc_le (i : grid0.Coords) (w : BitVec 32) : loc i w ≤ 1024 := by unfold loc; omega

/-- The bound that the kernel cuts to the tile does not wrap where the bound is not negative. -/
theorem isInt_locW (i : grid0.Coords) {w : BitVec 32} (hw : 0 ≤ w.toInt) : Affine.IsInt (locW w (row0 i)) (loc i w) := by
  have h := coord_lt i
  have h2 := word_lt w
  refine Affine.minsi (Affine.ofNat 1024 (e := 1024) (by omega))
    (Affine.maxsi (Affine.ofNat 0 (e := 0) (by omega))
      (Affine.subi (Affine.word w) (isInt_row0 i) (e := w.toInt - 1024 * ((i 0).val : Int)) (by omega)) rfl) ?_
  unfold loc; omega

/-- The bound that the kernel cuts to the tile, read as an integer. -/
theorem locW_toInt (i : grid0.Coords) {w : BitVec 32} (hw : 0 ≤ w.toInt) : (locW w (row0 i)).toInt = loc i w :=
  toInt_of (isInt_locW i hw)

/-! ## Blocks of eight rows -/

/-- The sign of a number that is not negative: zero or one. -/
theorem isInt_sgn {w : BitVec 32} {n : Nat} (h : Affine.IsInt w n) : Affine.IsInt (sgnW w) (if n = 0 then 0 else 1) := by
  have h0 : Affine.IsInt (0#32) 0 := Affine.ofNat 0 (by omega)
  by_cases hn : n = 0
  · refine Affine.subi (Affine.extui_fails (e := 0) (Affine.sgt_fails h h0 (by omega)) rfl)
      (Affine.extui_fails (e := 0) (Affine.slt_fails h h0 (by omega)) rfl) ?_
    rw [if_pos hn]; omega
  · refine Affine.subi (Affine.extui_holds (e := 1) (Affine.sgt_holds h h0 (by omega)) rfl)
      (Affine.extui_fails (e := 0) (Affine.slt_fails h h0 (by omega)) rfl) ?_
    rw [if_neg hn]; omega

/-- The floor division by eight, as the kernel spells it, of a number that is not negative. -/
theorem isInt_fdiv8 {w : BitVec 32} {n : Nat} (h : Affine.IsInt w n) : Affine.IsInt (fdiv8 w) (n / 8 : Nat) := by
  have h0 : Affine.IsInt (0#32) 0 := Affine.ofNat 0 (by omega)
  have h8 : Affine.IsInt (8#32) 8 := Affine.ofNat 8 (by omega)
  have h1 : Affine.IsInt (1#32) 1 := Affine.ofNat 1 (by omega)
  have hlt := word_lt w
  rw [toInt_of h] at hlt
  have hd : Affine.IsInt (Scalar.divsi w 8#32) (n / 8 : Nat) := Affine.divsi h h8 (by omega)
  have hr : Affine.IsInt (Scalar.remsi w 8#32) (n % 8 : Nat) := Affine.remsi h h8 (by omega)
  have hs8 : Affine.IsInt (Scalar.subi (Scalar.extui (Scalar.cmpi .sgt 8#32 0#32)) (Scalar.extui (Scalar.cmpi .slt 8#32 0#32))) 1 := by
    rw [show Scalar.subi (Scalar.extui (Scalar.cmpi .sgt 8#32 0#32)) (Scalar.extui (Scalar.cmpi .slt 8#32 0#32)) = 1#32 by decide]
    exact h1
  have hsub : Affine.IsInt (Scalar.subi (Scalar.divsi w 8#32) 1#32) ((n / 8 : Nat) - 1 : Int) := Affine.subi hd h1 (by omega)
  have hs := isInt_sgn h
  unfold fdiv8
  by_cases hn : n = 0
  · refine Affine.select_fails (Affine.andi_fails_right trivial (Affine.ne_fails hr h0 ?_)) hsub hd rfl
    omega
  · rw [if_neg hn] at hs
    exact Affine.select_fails (Affine.andi_fails_left (Affine.ne_fails hs hs8 rfl) trivial) hsub hd rfl

/-! ## When a segment meets a tile, and the two boundary blocks -/

/-- The condition under which a segment is updated: its bounds meet the tile. -/
theorem cond2_iff (i : grid0.Coords) {lo hi : BitVec 32} :
    k0_cond2 i lo hi = 1#1 ↔ 1024 * ((i 0).val : Int) < hi.toInt ∧ lo.toInt < 1024 * ((i 0).val : Int) + 1024 := by
  have h := coord_lt i
  have h1 : (Scalar.addi (row0 i) 1024#32).toInt = 1024 * ((i 0).val : Int) + 1024 :=
    toInt_of (Affine.addi (isInt_row0 i) (Affine.ofNat 1024 (e := 1024) (by omega)) (by omega))
  show Scalar.cmpi .ne (Scalar.extui (Scalar.andi (Scalar.cmpi .sgt hi (row0 i)) (Scalar.cmpi .slt lo (Scalar.addi (row0 i) 1024#32)))) 0#32 = 1#1 ↔ _
  rw [Scalar.guard_iff]
  refine IntOp.andi_eq_one.trans ?_
  refine (and_congr IntOp.cmpi_sgt IntOp.cmpi_slt).trans ?_
  rw [row0_toInt, h1]

/-- Where a segment meets the tile, its lower bound cut to the tile is below the height of the tile. -/
theorem loc_lo_lt (i : grid0.Coords) {lo hi : BitVec 32} (h : k0_cond2 i lo hi = 1#1) : loc i lo < 1024 := by
  have := ((cond2_iff i).mp h).2
  unfold loc; omega

/-- Where a segment meets the tile, its upper bound cut to the tile is positive. -/
theorem loc_hi_pos (i : grid0.Coords) {lo hi : BitVec 32} (h : k0_cond2 i lo hi = 1#1) : 0 < loc i hi := by
  have := ((cond2_iff i).mp h).1
  unfold loc; omega

/-- The block in which the segment begins. -/
theorem isInt_gb (i : grid0.Coords) {lo : BitVec 32} (hlo : 0 ≤ lo.toInt) :
    Affine.IsInt (fdiv8 (locW lo (row0 i))) (loc i lo / 8 : Nat) := isInt_fdiv8 (isInt_locW i hlo)

/-- The block in which the segment ends. -/
theorem isInt_ge (i : grid0.Coords) {hi : BitVec 32} (hhi : 0 ≤ hi.toInt) (h : 0 < loc i hi) :
    Affine.IsInt (fdiv8 (Scalar.subi (locW hi (row0 i)) 1#32)) ((loc i hi - 1) / 8 : Nat) := by
  have := loc_le i hi
  exact isInt_fdiv8 (Affine.subi (isInt_locW i hhi) (Affine.ofNat 1 (e := 1) (by omega)) (by omega))

/-- Eight times a small number does not wrap. -/
theorem isInt_mul8 {w : BitVec 32} {n : Nat} (h : Affine.IsInt w n) (hn : n ≤ 1024) : Affine.IsInt (Scalar.muli w 8#32) (8 * n : Nat) :=
  Affine.muli h (Affine.ofNat 8 (e := 8) (by omega)) (by omega)

/-- The block of eight rows that holds the segment's first row in the tile. -/
theorem off1_eq (i : grid0.Coords) {lo : BitVec 32} (hlo : 0 ≤ lo.toInt) : k0_off1 i lo = ![8 * (loc i lo / 8), 0] := by
  have := loc_le i lo
  show ![(Scalar.indexCast (Scalar.muli (fdiv8 (locW lo (row0 i))) 8#32)).toNat, 0] = _
  rw [Affine.nat_eq (Affine.indexCast (isInt_mul8 (isInt_gb i hlo) (by omega))) _ rfl]

/-- The block of eight rows that holds the segment's last row in the tile. -/
theorem off2_eq (i : grid0.Coords) {hi : BitVec 32} (hhi : 0 ≤ hi.toInt) (h : 0 < loc i hi) :
    k0_off2 i hi = ![8 * ((loc i hi - 1) / 8), 0] := by
  have := loc_le i hi
  show ![(Scalar.indexCast (Scalar.muli (fdiv8 (Scalar.subi (locW hi (row0 i)) 1#32)) 8#32)).toNat, 0] = _
  rw [Affine.nat_eq (Affine.indexCast (isInt_mul8 (isInt_ge i hhi h) (by omega))) _ rfl]

/-- The two boundary blocks lie in the tile. -/
theorem chk1_of_nonneg (i : grid0.Coords) {lo hi : BitVec 32} (hlo : 0 ≤ lo.toInt) (hhi : 0 ≤ hi.toInt) : k0_chk1 i lo hi := by
  refine ⟨fun h a => ?_, fun h a => ?_⟩
  · have h1 := loc_lo_lt i h
    rw [off1_eq i hlo]
    match a with
    | 0 => show 8 * (loc i lo / 8) + 8 ≤ 1024; omega
    | 1 => show 0 + 512 ≤ 512; omega
  · have h1 := loc_hi_pos i h
    have h2 := loc_le i hi
    rw [off2_eq i hhi h1]
    match a with
    | 0 => show 8 * ((loc i hi - 1) / 8) + 8 ≤ 1024; omega
    | 1 => show 0 + 512 ≤ 512; omega

end Cert.KernelIdeal.Hand
-- ==== Proof.Prologue.lean ====
/-
  What the kernel does at a tile before its segments: at the first tile the result set to minus infinity and the
  two weight matrices transposed and padded; at every tile the tile's rows through both layers. Each as a rule of
  the program logic over any program that follows.
-/
module

public import proofs.«01_k».proof.Proof.Words
public import Idealize.ShloMosaic.Lib.Pipeline.ValueKit
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

variable (c : Dev nD) (i : grid0.Coords) (arg1 : Memref sig .tc .smem S17 .i32) (harg1 : arg1.IsWhole)
  (arg2 : Memref sig .tc .vmem S1024x1024 .f32) (harg2 : arg2.IsWhole) (arg3 : Memref sig .tc .vmem S500x1024 .f32) (harg3 : arg3.IsWhole)
  (arg4 : Memref sig .tc .vmem S500x500 .f32) (harg4 : arg4.IsWhole) (arg5 : Memref sig .tc .vmem S16x512 .f32) (harg5 : arg5.IsWhole)
  (arg6 : Memref sig .tc .vmem S1024x512 .bf16) (harg6 : arg6.IsWhole) (arg7 : Memref sig .tc .vmem S512x512 .bf16) (harg7 : arg7.IsWhole)
  (arg8 : Memref sig .tc .vmem S1024x512 .f32) (harg8 : arg8.IsWhole)

section Prog

/-- The first tile's step, followed by the program `K`. -/
def initP {α : Type} (K : PUnit.{1} → P F α) : P F α :=
  if h : k0_cond1 i = 1#1 then do
    let v151 : Vec F S16x512 .f32 ← Prog.lift (.load arg5 (Rect.unit (s := S16x512) ![0, 0] S16x512.size inb_S16x512_S16x512_0_0).toLoadRect (View.loadsAt_vmem h_S16x512))
    Prog.lift (.store arg5 (Rect.unit (s := S16x512) ![0, 0] S16x512.size inb_S16x512_S16x512_0_0) (k0_pay51 (F := F)) Finset.univ (View.stores_vmem_bits_univ h_S16x512 rfl) (.inl rfl))
    let v152 : Vec F S500x1024 .f32 ← Prog.lift (.load arg3 (Rect.unit (s := S500x1024) ![0, 0] S500x1024.size inb_S500x1024_S500x1024_0_0).toLoadRect (View.loadsAt_vmem h_S500x1024))
    let v158 : Vec F S1024x512 .bf16 ← Prog.lift (.load arg6 (Rect.unit (s := S1024x512) ![0, 0] S1024x512.size inb_S1024x512_S1024x512_0_0).toLoadRect (View.loadsAt_vmem h_S1024x512))
    Prog.lift (.store arg6 (Rect.unit (s := S1024x512) ![0, 0] S1024x512.size inb_S1024x512_S1024x512_0_0) (k0_pay52 v152) Finset.univ (View.stores_vmem h_S1024x512 (harg6.storeExact_slice rfl _ packedbf16_S1024x512_S1024x512_0_0) (fun _ => rfl)) (.inl rfl))
    let v161 : Vec F S500x500 .f32 ← Prog.lift (.load arg4 (Rect.unit (s := S500x500) ![0, 0] S500x500.size inb_S500x500_S500x500_0_0).toLoadRect (View.loadsAt_vmem h_S500x500))
    let v169 : Vec F S512x512 .bf16 ← Prog.lift (.load arg7 (Rect.unit (s := S512x512) ![0, 0] S512x512.size inb_S512x512_S512x512_0_0).toLoadRect (View.loadsAt_vmem h_S512x512))
    Prog.lift (.store arg7 (Rect.unit (s := S512x512) ![0, 0] S512x512.size inb_S512x512_S512x512_0_0) (k0_pay53 v161) Finset.univ (View.stores_vmem h_S512x512 (harg7.storeExact_slice rfl _ packedbf16_S512x512_S512x512_0_0) (fun _ => rfl)) (.inl rfl))
    K ⟨⟩
  else K ⟨⟩

/-- The tile's rows through both layers, followed by the program `K` of the tile and the two weights. -/
def tileP {α : Type} (K : Vec F S1024x1024 .f32 → Vec F S1024x512 .bf16 → Vec F S512x512 .bf16 → P F α) : P F α := do
  let v3 : Vec F S1024x1024 .f32 ← Prog.lift (.load arg2 (Rect.unit (s := S1024x1024) ![0, 0] S1024x1024.size inb_S1024x1024_S1024x1024_0_0).toLoadRect (View.loadsAt_vmem h_S1024x1024))
  let v5 : Vec F S1024x512 .bf16 ← Prog.lift (.load arg6 (Rect.unit (s := S1024x512) ![0, 0] S1024x512.size inb_S1024x512_S1024x512_0_0).toLoadRect (View.loadsAt_vmem h_S1024x512))
  let v10 : Vec F S512x512 .bf16 ← Prog.lift (.load arg7 (Rect.unit (s := S512x512) ![0, 0] S512x512.size inb_S512x512_S512x512_0_0).toLoadRect (View.loadsAt_vmem h_S512x512))
  let v12 : Vec F S1024x512 .f32 ← Prog.lift (.load arg8 (Rect.unit (s := S1024x512) ![0, 0] S1024x512.size inb_S1024x512_S1024x512_0_0).toLoadRect (View.loadsAt_vmem h_S1024x512))
  Prog.lift (.store arg8 (Rect.unit (s := S1024x512) ![0, 0] S1024x512.size inb_S1024x512_S1024x512_0_0) (k0_pay55 v3 v5 v10) Finset.univ (View.stores_vmem_bits_univ h_S1024x512 rfl) (.inl rfl))
  K v3 v5 v10

end Prog

/-- What the body holds of everything but the table and the tile's rows and the result. -/
def rest (X0 : S1024x1024.Idx → Elt F .f32) (W0 : S500x1024.Idx → Elt F .f32) (W1 : S500x500.Idx → Elt F .f32)
    (A : S1024x512.Idx → Elt F .bf16) (B : S512x512.Idx → Elt F .bf16) : sProp 𝕄 :=
  iprop(owns (c : Thread nD τ) arg2 fullShare X0 ∗ owns (c : Thread nD τ) arg3 fullShare W0 ∗ owns (c : Thread nD τ) arg4 fullShare W1
    ∗ owns (c : Thread nD τ) arg6 fullShare A ∗ owns (c : Thread nD τ) arg7 fullShare B)

/-- The result after the first tile's step. -/
def initX (X : S16x512.Idx → Elt F .f32) : S16x512.Idx → Elt F .f32 := if k0_cond1 i = 1#1 then k0_pay51 else X
/-- The first layer's weights after the first tile's step. -/
def initA (W0 : S500x1024.Idx → Elt F .f32) (A : S1024x512.Idx → Elt F .bf16) : S1024x512.Idx → Elt F .bf16 :=
  if k0_cond1 i = 1#1 then k0_pay52 W0 else A
/-- The second layer's weights after the first tile's step. -/
def initB (W1 : S500x500.Idx → Elt F .f32) (B : S512x512.Idx → Elt F .bf16) : S512x512.Idx → Elt F .bf16 :=
  if k0_cond1 i = 1#1 then k0_pay53 W1 else B

variable (q : PosShare TreeShare) (T : S17.Idx → Elt F .i32) (Y : S1024x512.Idx → Elt F .f32) (X : S16x512.Idx → Elt F .f32)
  (X0 : S1024x1024.Idx → Elt F .f32) (W0 : S500x1024.Idx → Elt F .f32) (W1 : S500x500.Idx → Elt F .f32)
  (A : S1024x512.Idx → Elt F .bf16) (B : S512x512.Idx → Elt F .bf16) {α : Type}

/-- A rectangle that is the whole buffer, written and read back. -/
theorem overlay_whole {Val : EltTy → Type} {e : EltTy} {s : Shape} {off : Fin s.rank → ℕ} (inb : ∀ a, off a + s.size a ≤ s.size a)
    (X : s.Idx → Val e) (w : s.Idx → Val e) : (Rect.unit (s := s) off s.size inb).overlay X w = w := by
  funext y
  have h := (Rect.unit (s := s) off s.size inb).overlay_emb X w y
  rw [Rect.emb_unit_full] at h
  exact h

/-- A rectangle that is the whole buffer, read. -/
theorem readAt_whole {Val : EltTy → Type} {sp : Space} {s : Shape} {e : EltTy} (v : View sig .tc sp s e) (f : v.ty.Contents Val)
    {off : Fin s.rank → ℕ} (inb : ∀ a, off a + s.size a ≤ s.size a) :
    v.readAt Val (Rect.unit (s := s) off s.size inb).toLoadRect f = v.read Val f := by
  funext y
  exact congrArg (v.read Val f) (Rect.emb_unit_full inb y)

/-- The first tile's step. -/
theorem wp_init (K : PUnit.{1} → P F α) (Q : α → sProp 𝕄)
    (H : St c arg1 arg5 arg8 q T Y (rest c arg2 arg3 arg4 arg6 arg7 X0 W0 W1 (initA i W0 A) (initB i W1 B)) (initX i X)
      ⊢ wp frame (wpE (defs₀ (F := F)) Variants.none c none) Set.univ (K ⟨⟩) Q) :
    St c arg1 arg5 arg8 q T Y (rest c arg2 arg3 arg4 arg6 arg7 X0 W0 W1 A B) X
      ⊢ wp frame (wpE (defs₀ (F := F)) Variants.none c none) Set.univ (initP i arg3 arg4 arg5 arg6 harg6 arg7 harg7 K) Q := by
  unfold initP initA initB initX at *
  split
  · rename_i h
    rw [if_pos h, if_pos h, if_pos h] at H
    unfold St rest owns at *
    iintro ⟨⟨%f1, %h1, H1⟩, ⟨%f8, %h8, H8⟩, ⟨%f5, %h5, H5⟩, ⟨%f2, %h2, H2⟩, ⟨%f3, %h3, H3⟩, ⟨%f4, %h4, H4⟩, ⟨%f6, %h6, H6⟩, ⟨%f7, %h7, H7⟩⟩
    sl_exec
    iapply H
    isplitl [H1]
    · iexists _; isplitr; · ipureintro; exact h1
      iexact H1
    isplitl [H8]
    · iexists _; isplitr; · ipureintro; exact h8
      iexact H8
    isplitl [H5]
    · iexists _; isplitr; swap; · iexact H5
      ipureintro
      exact (read_write_row _ _ _ _).trans (overlay_whole _ _ _)
    isplitl [H2]
    · iexists _; isplitr; · ipureintro; exact h2
      iexact H2
    isplitl [H3]
    · iexists _; isplitr; · ipureintro; exact h3
      iexact H3
    isplitl [H4]
    · iexists _; isplitr; · ipureintro; exact h4
      iexact H4
    isplitl [H6]
    · iexists _; isplitr; swap; · iexact H6
      ipureintro
      subst h3
      refine (read_write_row _ _ _ _).trans ((overlay_whole _ _ _).trans ?_)
      exact congrArg k0_pay52 (readAt_whole _ _ _)
    · iexists _; isplitr; swap; · iexact H7
      ipureintro
      subst h4
      refine (read_write_row _ _ _ _).trans ((overlay_whole _ _ _).trans ?_)
      exact congrArg k0_pay53 (readAt_whole _ _ _)
  · rename_i h
    rw [if_neg h, if_neg h, if_neg h] at H
    exact H

/-- The tile's rows through both layers. -/
theorem wp_tile (K : Vec F S1024x1024 .f32 → Vec F S1024x512 .bf16 → Vec F S512x512 .bf16 → P F α) (Q : α → sProp 𝕄)
    (H : St c arg1 arg5 arg8 q T (k0_pay55 X0 A B) (rest c arg2 arg3 arg4 arg6 arg7 X0 W0 W1 A B) X
      ⊢ wp frame (wpE (defs₀ (F := F)) Variants.none c none) Set.univ (K X0 A B) Q) :
    St c arg1 arg5 arg8 q T Y (rest c arg2 arg3 arg4 arg6 arg7 X0 W0 W1 A B) X
      ⊢ wp frame (wpE (defs₀ (F := F)) Variants.none c none) Set.univ (tileP arg2 arg6 arg7 arg8 K) Q := by
  unfold tileP
  unfold St rest owns at *
  iintro ⟨⟨%f1, %h1, H1⟩, ⟨%f8, %h8, H8⟩, ⟨%f5, %h5, H5⟩, ⟨%f2, %h2, H2⟩, ⟨%f3, %h3, H3⟩, ⟨%f4, %h4, H4⟩, ⟨%f6, %h6, H6⟩, ⟨%f7, %h7, H7⟩⟩
  sl_exec
  rw [readAt_whole, readAt_whole, readAt_whole, h2, h6, h7]
  iapply H
  isplitl [H1]
  · iexists _; isplitr; · ipureintro; exact h1
    iexact H1
  isplitl [H8]
  · iexists _; isplitr; swap; · iexact H8
    ipureintro
    exact (read_write_row _ _ _ _).trans (overlay_whole _ _ _)
  isplitl [H5]
  · iexists _; isplitr; · ipureintro; exact h5
    iexact H5
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H6]
  · iexists _; isplitr; · ipureintro; exact h6
    iexact H6
  · iexists _; isplitr; · ipureintro; exact h7
    iexact H7

end Cert.KernelIdeal.Hand

end
-- ==== Proof.Body.lean ====
/-
  The kernel's body as its sixteen segments: each printed part of it is a run of the segment's steps, so the body
  leaves in the result the tile's maxima laid over it segment by segment.
-/
module

public import proofs.«01_k».proof.Proof.Prologue

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

variable (c : Dev nD) (i : grid0.Coords) (arg1 : Memref sig .tc .smem S17 .i32) (harg1 : arg1.IsWhole)
  (arg2 : Memref sig .tc .vmem S1024x1024 .f32) (harg2 : arg2.IsWhole) (arg3 : Memref sig .tc .vmem S500x1024 .f32) (harg3 : arg3.IsWhole)
  (arg4 : Memref sig .tc .vmem S500x500 .f32) (harg4 : arg4.IsWhole) (arg5 : Memref sig .tc .vmem S16x512 .f32) (harg5 : arg5.IsWhole)
  (arg6 : Memref sig .tc .vmem S1024x512 .bf16) (harg6 : arg6.IsWhole) (arg7 : Memref sig .tc .vmem S512x512 .bf16) (harg7 : arg7.IsWhole)
  (arg8 : Memref sig .tc .vmem S1024x512 .f32) (harg8 : arg8.IsWhole)

section Programs

variable (v16 : FVec F S128x512 .f32) (v17 : BitVec 32) (v20 : IVec S128x1 32) (v21 : IVec S8x1 32)

set_option maxRecDepth 65536

/-- The second printed part is segments 1 to 4. -/
theorem part34_eq (lo hi : BitVec 32) (hw : k0_chk2 i lo hi) :
    k0_part34_skel i arg1 harg1 arg2 harg2 arg3 harg3 arg4 harg4 arg5 harg5 arg6 harg6 arg7 harg7 arg8 harg8 v16 v17 v20 v21 lo hi hw =
      segP i arg1 harg1 arg2 harg2 arg3 harg3 arg4 harg4 arg5 harg5 arg6 harg6 arg7 harg7 arg8 harg8 1 v16 v17 v20 v21 lo hi hw fun _ =>
      headP i arg1 2 fun lo hi hw =>
      segP i arg1 harg1 arg2 harg2 arg3 harg3 arg4 harg4 arg5 harg5 arg6 harg6 arg7 harg7 arg8 harg8 2 v16 v17 v20 v21 lo hi hw fun _ =>
      headP i arg1 3 fun lo hi hw =>
      segP i arg1 harg1 arg2 harg2 arg3 harg3 arg4 harg4 arg5 harg5 arg6 harg6 arg7 harg7 arg8 harg8 3 v16 v17 v20 v21 lo hi hw fun _ =>
      headP i arg1 4 fun lo hi hw =>
      segP i arg1 harg1 arg2 harg2 arg3 harg3 arg4 harg4 arg5 harg5 arg6 harg6 arg7 harg7 arg8 harg8 4 v16 v17 v20 v21 lo hi hw fun _ =>
      headP i arg1 5 fun lo hi hw => pure ⟨lo, hi, hw, Scalar.cmpi .sgt hi v17, Scalar.cmpi .slt lo (Scalar.addi v17 1024#32)⟩ := rfl

/-- The third printed part is segments 5 to 8. -/
theorem part35_eq (lo hi : BitVec 32) (hw : k0_chk6 i lo hi) (b1 b2 : BitVec 1) :
    k0_part35_skel i arg1 harg1 arg2 harg2 arg3 harg3 arg4 harg4 arg5 harg5 arg6 harg6 arg7 harg7 arg8 harg8 v16 v17 v20 v21 lo hi hw b1 b2 =
      segP i arg1 harg1 arg2 harg2 arg3 harg3 arg4 harg4 arg5 harg5 arg6 harg6 arg7 harg7 arg8 harg8 5 v16 v17 v20 v21 lo hi hw fun _ =>
      headP i arg1 6 fun lo hi hw =>
      segP i arg1 harg1 arg2 harg2 arg3 harg3 arg4 harg4 arg5 harg5 arg6 harg6 arg7 harg7 arg8 harg8 6 v16 v17 v20 v21 lo hi hw fun _ =>
      headP i arg1 7 fun lo hi hw =>
      segP i arg1 harg1 arg2 harg2 arg3 harg3 arg4 harg4 arg5 harg5 arg6 harg6 arg7 harg7 arg8 harg8 7 v16 v17 v20 v21 lo hi hw fun _ =>
      headP i arg1 8 fun lo hi hw =>
      segP i arg1 harg1 arg2 harg2 arg3 harg3 arg4 harg4 arg5 harg5 arg6 harg6 arg7 harg7 arg8 harg8 8 v16 v17 v20 v21 lo hi hw fun _ =>
      headP i arg1 9 fun lo hi hw => pure ⟨lo, hi, hw⟩ := rfl

/-- The fourth printed part is segments 9 to 13. -/
theorem part36_eq (lo hi : BitVec 32) (hw : k0_chk10 i lo hi) :
    k0_part36_skel i arg1 harg1 arg2 harg2 arg3 harg3 arg4 harg4 arg5 harg5 arg6 harg6 arg7 harg7 arg8 harg8 v16 v17 v20 v21 lo hi hw =
      segP i arg1 harg1 arg2 harg2 arg3 harg3 arg4 harg4 arg5 harg5 arg6 harg6 arg7 harg7 arg8 harg8 9 v16 v17 v20 v21 lo hi hw fun _ =>
      headP i arg1 10 fun lo hi hw =>
      segP i arg1 harg1 arg2 harg2 arg3 harg3 arg4 harg4 arg5 harg5 arg6 harg6 arg7 harg7 arg8 harg8 10 v16 v17 v20 v21 lo hi hw fun _ =>
      headP i arg1 11 fun lo hi hw =>
      segP i arg1 harg1 arg2 harg2 arg3 harg3 arg4 harg4 arg5 harg5 arg6 harg6 arg7 harg7 arg8 harg8 11 v16 v17 v20 v21 lo hi hw fun _ =>
      headP i arg1 12 fun lo hi hw =>
      segP i arg1 harg1 arg2 harg2 arg3 harg3 arg4 harg4 arg5 harg5 arg6 harg6 arg7 harg7 arg8 harg8 12 v16 v17 v20 v21 lo hi hw fun _ =>
      headP i arg1 13 fun lo hi hw =>
      segP i arg1 harg1 arg2 harg2 arg3 harg3 arg4 harg4 arg5 harg5 arg6 harg6 arg7 harg7 arg8 harg8 13 v16 v17 v20 v21 lo hi hw fun _ =>
      (smemLoad arg1 (wordRect 14) numel1_S1 rfl >>= fun lo => pure lo) := rfl

/-- What is left of the body: segments 14 and 15. -/
def lastP (lo : BitVec 32) : P F PUnit.{1} :=
  smemLoad arg1 (wordRect 15) numel1_S1 rfl >>= fun hi =>
  Prog.lift (TpuEff.assume (k0_chk1 i lo hi) (k0_chk1.dec i lo hi)) >>= fun hw =>
  segP i arg1 harg1 arg2 harg2 arg3 harg3 arg4 harg4 arg5 harg5 arg6 harg6 arg7 harg7 arg8 harg8 14 v16 v17 v20 v21 lo hi hw.down fun _ =>
  headP i arg1 15 fun lo hi hw =>
  segP i arg1 harg1 arg2 harg2 arg3 harg3 arg4 harg4 arg5 harg5 arg6 harg6 arg7 harg7 arg8 harg8 15 v16 v17 v20 v21 lo hi hw fun _ => pure ⟨⟩

/-- The first printed part is the first tile's step, the tile's rows through both layers, and segment 0. -/
theorem part33_eq :
    k0_part33_skel (F := F) i arg1 harg1 arg2 harg2 arg3 harg3 arg4 harg4 arg5 harg5 arg6 harg6 arg7 harg7 arg8 harg8 =
      initP i arg3 arg4 arg5 arg6 harg6 arg7 harg7 fun _ =>
      tileP arg2 arg6 arg7 arg8 fun v3 v5 v10 =>
      headP i arg1 0 fun lo hi hw =>
      segP i arg1 harg1 arg2 harg2 arg3 harg3 arg4 harg4 arg5 harg5 arg6 harg6 arg7 harg7 arg8 harg8 0 (k0_pay56 v3 v5 v10) (row0 i) k0_pay57 (iota .tc S8x1 32 [0] iota_S8x1_d0_w32) lo hi hw fun _ =>
      headP i arg1 1 fun lo hi hw => pure ⟨k0_pay56 v3 v5 v10, row0 i, k0_pay57, iota .tc S8x1 32 [0] iota_S8x1_d0_w32, lo, hi, hw⟩ := rfl

/-- The body is its four printed parts and what is left. -/
theorem body_eq :
    cc0__fused_kernel_skel (F := F) i arg1 harg1 arg2 harg2 arg3 harg3 arg4 harg4 arg5 harg5 arg6 harg6 arg7 harg7 arg8 harg8 =
      (k0_part33 i arg1 harg1 arg2 harg2 arg3 harg3 arg4 harg4 arg5 harg5 arg6 harg6 arg7 harg7 arg8 harg8 >>= fun r =>
       k0_part34 i arg1 harg1 arg2 harg2 arg3 harg3 arg4 harg4 arg5 harg5 arg6 harg6 arg7 harg7 arg8 harg8 r.1 r.2.1 r.2.2.1 r.2.2.2.1 r.2.2.2.2.1 r.2.2.2.2.2.1 r.2.2.2.2.2.2 >>= fun r2 =>
       k0_part35 i arg1 harg1 arg2 harg2 arg3 harg3 arg4 harg4 arg5 harg5 arg6 harg6 arg7 harg7 arg8 harg8 r.1 r.2.1 r.2.2.1 r.2.2.2.1 r2.1 r2.2.1 r2.2.2.1 r2.2.2.2.1 r2.2.2.2.2 >>= fun r3 =>
       k0_part36 i arg1 harg1 arg2 harg2 arg3 harg3 arg4 harg4 arg5 harg5 arg6 harg6 arg7 harg7 arg8 harg8 r.1 r.2.1 r.2.2.1 r.2.2.2.1 r3.1 r3.2.1 r3.2.2 >>= fun lo =>
       lastP i arg1 harg1 arg2 harg2 arg3 harg3 arg4 harg4 arg5 harg5 arg6 harg6 arg7 harg7 arg8 harg8 r.1 r.2.1 r.2.2.1 r.2.2.2.1 lo) := rfl

end Programs

variable (q : PosShare TreeShare) (T : S17.Idx → Elt F .i32) (Y : S1024x512.Idx → Elt F .f32) (X : S16x512.Idx → Elt F .f32)
  (hT : ∀ k, 0 ≤ (tword T k).toInt)

include hT in
/-- The side condition of segment `s`. -/
theorem chkT (s : Fin 16) : k0_chk1 i (tword T s.castSucc) (tword T s.succ) := chk1_of_nonneg i (hT _) (hT _)

/-- Segment `s` of the tile laid over the result. -/
def segAt (v16 : FVec F S128x512 .f32) (v17 : BitVec 32) (v20 : IVec S128x1 32) (v21 : IVec S8x1 32) (s : Fin 16)
    (X : S16x512.Idx → Elt F .f32) : S16x512.Idx → Elt F .f32 :=
  segUpd i v16 v17 v20 v21 Y s (tword T s.castSucc) (tword T s.succ) (chkT i T hT s) X

/-- The sixteen segments, in order. -/
def segs : List (Fin 16) := [0, 1, 2, 3, 4, 5, 6, 7, 8, 9, 10, 11, 12, 13, 14, 15]

/-- The segments of a list laid over the result in turn. -/
def segsAt (v16 : FVec F S128x512 .f32) (v17 : BitVec 32) (v20 : IVec S128x1 32) (v21 : IVec S8x1 32) (l : List (Fin 16))
    (X : S16x512.Idx → Elt F .f32) : S16x512.Idx → Elt F .f32 :=
  l.foldl (fun X s => segAt i T Y hT v16 v17 v20 v21 s X) X

include hT in
/-- The two words of segment `s` and its side condition. -/
theorem wp_head {α : Type} (G : sProp 𝕄) (s : Fin 16) (K : (lo hi : BitVec 32) → k0_chk1 i lo hi → P F α) (Q : α → sProp 𝕄)
    (H : St c arg1 arg5 arg8 q T Y G X ⊢ wp frame (wpE (defs₀ (F := F)) Variants.none c none) Set.univ (K (tword T s.castSucc) (tword T s.succ) (chkT i T hT s)) Q) :
    St c arg1 arg5 arg8 q T Y G X ⊢ wp frame (wpE (defs₀ (F := F)) Variants.none c none) Set.univ (headP i arg1 s K) Q := by
  unfold headP
  refine wp_word c arg1 arg5 arg8 q T Y X G _ _ Q ?_
  refine wp_word c arg1 arg5 arg8 q T Y X G _ _ Q ?_
  exact wp_check c i arg1 arg5 arg8 q T Y X G _ _ (chkT i T hT s) _ Q H

/-- A program's end. -/
theorem wp_end {α : Type} (a : α) (R : sProp 𝕄) (Q : α → sProp 𝕄) (H : R ⊢ Q a) : R ⊢ wp frame (wpE (defs₀ (F := F)) Variants.none c none) Set.univ (pure a) Q := by
  iintro HR
  sl_step
  iapply H; iexact HR

section Parts

variable (v16 : FVec F S128x512 .f32) (v17 : BitVec 32) (v20 : IVec S128x1 32) (v21 : IVec S8x1 32)

/-- Segments 1 to 4. -/
theorem wp_part34 (G : sProp 𝕄) (hw : k0_chk2 i (tword T 1) (tword T 2)) (Q : _ → sProp 𝕄)
    (H : ∀ h6, St c arg1 arg5 arg8 q T Y G (segsAt i T Y hT v16 v17 v20 v21 [1, 2, 3, 4] X)
      ⊢ Q ⟨tword T 5, tword T 6, h6, Scalar.cmpi .sgt (tword T 6) v17, Scalar.cmpi .slt (tword T 5) (Scalar.addi v17 1024#32)⟩) :
    St c arg1 arg5 arg8 q T Y G X
      ⊢ wp frame (wpE (defs₀ (F := F)) Variants.none c none) Set.univ (k0_part34 i arg1 harg1 arg2 harg2 arg3 harg3 arg4 harg4 arg5 harg5 arg6 harg6 arg7 harg7 arg8 harg8 v16 v17 v20 v21 (tword T 1) (tword T 2) hw) Q := by
  rw [k0_part34_eq_skeleton, part34_eq]
  refine wp_seg c i arg1 harg1 arg2 harg2 arg3 harg3 arg4 harg4 arg5 harg5 arg6 harg6 arg7 harg7 arg8 harg8 q T Y _ G 1 v16 v17 v20 v21 _ _ _ _ Q ?_
  refine wp_head c i arg1 arg5 arg8 q T Y _ hT G 2 _ Q ?_
  refine wp_seg c i arg1 harg1 arg2 harg2 arg3 harg3 arg4 harg4 arg5 harg5 arg6 harg6 arg7 harg7 arg8 harg8 q T Y _ G 2 v16 v17 v20 v21 _ _ _ _ Q ?_
  refine wp_head c i arg1 arg5 arg8 q T Y _ hT G 3 _ Q ?_
  refine wp_seg c i arg1 harg1 arg2 harg2 arg3 harg3 arg4 harg4 arg5 harg5 arg6 harg6 arg7 harg7 arg8 harg8 q T Y _ G 3 v16 v17 v20 v21 _ _ _ _ Q ?_
  refine wp_head c i arg1 arg5 arg8 q T Y _ hT G 4 _ Q ?_
  refine wp_seg c i arg1 harg1 arg2 harg2 arg3 harg3 arg4 harg4 arg5 harg5 arg6 harg6 arg7 harg7 arg8 harg8 q T Y _ G 4 v16 v17 v20 v21 _ _ _ _ Q ?_
  refine wp_head c i arg1 arg5 arg8 q T Y _ hT G 5 _ Q ?_
  exact wp_end c _ _ Q (H _)

/-- Segments 5 to 8. -/
theorem wp_part35 (G : sProp 𝕄) (hw : k0_chk6 i (tword T 5) (tword T 6)) (b1 b2 : BitVec 1) (Q : _ → sProp 𝕄)
    (H : ∀ h, St c arg1 arg5 arg8 q T Y G (segsAt i T Y hT v16 v17 v20 v21 [5, 6, 7, 8] X) ⊢ Q ⟨tword T 9, tword T 10, h⟩) :
    St c arg1 arg5 arg8 q T Y G X
      ⊢ wp frame (wpE (defs₀ (F := F)) Variants.none c none) Set.univ (k0_part35 i arg1 harg1 arg2 harg2 arg3 harg3 arg4 harg4 arg5 harg5 arg6 harg6 arg7 harg7 arg8 harg8 v16 v17 v20 v21 (tword T 5) (tword T 6) hw b1 b2) Q := by
  rw [k0_part35_eq_skeleton, part35_eq]
  refine wp_seg c i arg1 harg1 arg2 harg2 arg3 harg3 arg4 harg4 arg5 harg5 arg6 harg6 arg7 harg7 arg8 harg8 q T Y _ G 5 v16 v17 v20 v21 _ _ _ _ Q ?_
  refine wp_head c i arg1 arg5 arg8 q T Y _ hT G 6 _ Q ?_
  refine wp_seg c i arg1 harg1 arg2 harg2 arg3 harg3 arg4 harg4 arg5 harg5 arg6 harg6 arg7 harg7 arg8 harg8 q T Y _ G 6 v16 v17 v20 v21 _ _ _ _ Q ?_
  refine wp_head c i arg1 arg5 arg8 q T Y _ hT G 7 _ Q ?_
  refine wp_seg c i arg1 harg1 arg2 harg2 arg3 harg3 arg4 harg4 arg5 harg5 arg6 harg6 arg7 harg7 arg8 harg8 q T Y _ G 7 v16 v17 v20 v21 _ _ _ _ Q ?_
  refine wp_head c i arg1 arg5 arg8 q T Y _ hT G 8 _ Q ?_
  refine wp_seg c i arg1 harg1 arg2 harg2 arg3 harg3 arg4 harg4 arg5 harg5 arg6 harg6 arg7 harg7 arg8 harg8 q T Y _ G 8 v16 v17 v20 v21 _ _ _ _ Q ?_
  refine wp_head c i arg1 arg5 arg8 q T Y _ hT G 9 _ Q ?_
  exact wp_end c _ _ Q (H _)

/-- Segments 9 to 13. -/
theorem wp_part36 (G : sProp 𝕄) (hw : k0_chk10 i (tword T 9) (tword T 10)) (Q : _ → sProp 𝕄)
    (H : St c arg1 arg5 arg8 q T Y G (segsAt i T Y hT v16 v17 v20 v21 [9, 10, 11, 12, 13] X) ⊢ Q (tword T 14)) :
    St c arg1 arg5 arg8 q T Y G X
      ⊢ wp frame (wpE (defs₀ (F := F)) Variants.none c none) Set.univ (k0_part36 i arg1 harg1 arg2 harg2 arg3 harg3 arg4 harg4 arg5 harg5 arg6 harg6 arg7 harg7 arg8 harg8 v16 v17 v20 v21 (tword T 9) (tword T 10) hw) Q := by
  rw [k0_part36_eq_skeleton, part36_eq]
  refine wp_seg c i arg1 harg1 arg2 harg2 arg3 harg3 arg4 harg4 arg5 harg5 arg6 harg6 arg7 harg7 arg8 harg8 q T Y _ G 9 v16 v17 v20 v21 _ _ _ _ Q ?_
  refine wp_head c i arg1 arg5 arg8 q T Y _ hT G 10 _ Q ?_
  refine wp_seg c i arg1 harg1 arg2 harg2 arg3 harg3 arg4 harg4 arg5 harg5 arg6 harg6 arg7 harg7 arg8 harg8 q T Y _ G 10 v16 v17 v20 v21 _ _ _ _ Q ?_
  refine wp_head c i arg1 arg5 arg8 q T Y _ hT G 11 _ Q ?_
  refine wp_seg c i arg1 harg1 arg2 harg2 arg3 harg3 arg4 harg4 arg5 harg5 arg6 harg6 arg7 harg7 arg8 harg8 q T Y _ G 11 v16 v17 v20 v21 _ _ _ _ Q ?_
  refine wp_head c i arg1 arg5 arg8 q T Y _ hT G 12 _ Q ?_
  refine wp_seg c i arg1 harg1 arg2 harg2 arg3 harg3 arg4 harg4 arg5 harg5 arg6 harg6 arg7 harg7 arg8 harg8 q T Y _ G 12 v16 v17 v20 v21 _ _ _ _ Q ?_
  refine wp_head c i arg1 arg5 arg8 q T Y _ hT G 13 _ Q ?_
  refine wp_seg c i arg1 harg1 arg2 harg2 arg3 harg3 arg4 harg4 arg5 harg5 arg6 harg6 arg7 harg7 arg8 harg8 q T Y _ G 13 v16 v17 v20 v21 _ _ _ _ Q ?_
  refine wp_word c arg1 arg5 arg8 q T Y _ G 14 _ Q ?_
  exact wp_end c _ _ Q H

/-- Segments 14 and 15. -/
theorem wp_last (G : sProp 𝕄) (Q : PUnit.{1} → sProp 𝕄)
    (H : St c arg1 arg5 arg8 q T Y G (segsAt i T Y hT v16 v17 v20 v21 [14, 15] X) ⊢ Q ⟨⟩) :
    St c arg1 arg5 arg8 q T Y G X ⊢ wp frame (wpE (defs₀ (F := F)) Variants.none c none) Set.univ (lastP i arg1 harg1 arg2 harg2 arg3 harg3 arg4 harg4 arg5 harg5 arg6 harg6 arg7 harg7 arg8 harg8 v16 v17 v20 v21 (tword T 14)) Q := by
  unfold lastP
  refine wp_word c arg1 arg5 arg8 q T Y _ G 15 _ Q ?_
  refine wp_check c i arg1 arg5 arg8 q T Y _ G _ _ (chkT i T hT 14) _ Q ?_
  refine wp_seg c i arg1 harg1 arg2 harg2 arg3 harg3 arg4 harg4 arg5 harg5 arg6 harg6 arg7 harg7 arg8 harg8 q T Y _ G 14 v16 v17 v20 v21 _ _ _ _ Q ?_
  refine wp_head c i arg1 arg5 arg8 q T Y _ hT G 15 _ Q ?_
  refine wp_seg c i arg1 harg1 arg2 harg2 arg3 harg3 arg4 harg4 arg5 harg5 arg6 harg6 arg7 harg7 arg8 harg8 q T Y _ G 15 v16 v17 v20 v21 _ _ _ _ Q ?_
  exact wp_end c _ _ Q H

end Parts

variable (X0 : S1024x1024.Idx → Elt F .f32) (W0 : S500x1024.Idx → Elt F .f32) (W1 : S500x500.Idx → Elt F .f32)
  (A : S1024x512.Idx → Elt F .bf16) (B : S512x512.Idx → Elt F .bf16)

/-- The segments of a list laid over the result, for the tile `X0` through the weights `A`, `B`. -/
def tileAt (l : List (Fin 16)) (X : S16x512.Idx → Elt F .f32) : S16x512.Idx → Elt F .f32 :=
  segsAt i T (k0_pay55 X0 A B) hT (k0_pay56 X0 A B) (row0 i) k0_pay57 (iota .tc S8x1 32 [0] iota_S8x1_d0_w32) l X

/-- The first printed part. -/
theorem wp_part33 (Q : _ → sProp 𝕄)
    (H : ∀ h, St c arg1 arg5 arg8 q T (k0_pay55 X0 (initA i W0 A) (initB i W1 B))
        (rest c arg2 arg3 arg4 arg6 arg7 X0 W0 W1 (initA i W0 A) (initB i W1 B))
        (tileAt i T hT X0 (initA i W0 A) (initB i W1 B) [0] (initX i X))
      ⊢ Q ⟨k0_pay56 X0 (initA i W0 A) (initB i W1 B), row0 i, k0_pay57, iota .tc S8x1 32 [0] iota_S8x1_d0_w32, tword T 1, tword T 2, h⟩) :
    St c arg1 arg5 arg8 q T Y (rest c arg2 arg3 arg4 arg6 arg7 X0 W0 W1 A B) X
      ⊢ wp frame (wpE (defs₀ (F := F)) Variants.none c none) Set.univ (k0_part33 i arg1 harg1 arg2 harg2 arg3 harg3 arg4 harg4 arg5 harg5 arg6 harg6 arg7 harg7 arg8 harg8) Q := by
  rw [k0_part33_eq_skeleton, part33_eq]
  refine wp_init c i arg1 arg2 arg3 arg4 arg5 arg6 harg6 arg7 harg7 arg8 q T Y X X0 W0 W1 A B _ Q ?_
  refine wp_tile c arg1 arg2 arg3 arg4 arg5 arg6 arg7 arg8 q T Y _ X0 W0 W1 _ _ _ Q ?_
  refine wp_head c i arg1 arg5 arg8 q T _ _ hT _ 0 _ Q ?_
  refine wp_seg c i arg1 harg1 arg2 harg2 arg3 harg3 arg4 harg4 arg5 harg5 arg6 harg6 arg7 harg7 arg8 harg8 q T _ _ _ 0 _ _ _ _ _ _ _ _ Q ?_
  refine wp_head c i arg1 arg5 arg8 q T _ _ hT _ 1 _ Q ?_
  exact wp_end c _ _ Q (H _)

/-- THE BODY: the tile's maxima laid over the result, segment by segment; the table, the tile and the weights as they
    were; the padded transposes kept from the first tile on. -/
theorem wp_body (Q : PUnit.{1} → sProp 𝕄)
    (H : St c arg1 arg5 arg8 q T (k0_pay55 X0 (initA i W0 A) (initB i W1 B))
        (rest c arg2 arg3 arg4 arg6 arg7 X0 W0 W1 (initA i W0 A) (initB i W1 B))
        (tileAt i T hT X0 (initA i W0 A) (initB i W1 B) segs (initX i X)) ⊢ Q ⟨⟩) :
    St c arg1 arg5 arg8 q T Y (rest c arg2 arg3 arg4 arg6 arg7 X0 W0 W1 A B) X
      ⊢ wp frame (wpE (defs₀ (F := F)) Variants.none c none) Set.univ (cc0__fused_kernel (F := F) i arg1 harg1 arg2 harg2 arg3 harg3 arg4 harg4 arg5 harg5 arg6 harg6 arg7 harg7 arg8 harg8) Q := by
  rw [cc0__fused_kernel_eq_skeleton, body_eq]
  rw [wp_bind]
  refine wp_part33 c i arg1 harg1 arg2 harg2 arg3 harg3 arg4 harg4 arg5 harg5 arg6 harg6 arg7 harg7 arg8 harg8 q T Y X hT X0 W0 W1 A B _ fun h => ?_
  rw [wp_bind]
  refine wp_part34 c i arg1 harg1 arg2 harg2 arg3 harg3 arg4 harg4 arg5 harg5 arg6 harg6 arg7 harg7 arg8 harg8 q T _ _ hT _ _ _ _ _ h _ fun h => ?_
  rw [wp_bind]
  refine wp_part35 c i arg1 harg1 arg2 harg2 arg3 harg3 arg4 harg4 arg5 harg5 arg6 harg6 arg7 harg7 arg8 harg8 q T _ _ hT _ _ _ _ _ h _ _ _ fun h => ?_
  rw [wp_bind]
  refine wp_part36 c i arg1 harg1 arg2 harg2 arg3 harg3 arg4 harg4 arg5 harg5 arg6 harg6 arg7 harg7 arg8 harg8 q T _ _ hT _ _ _ _ _ h _ ?_
  refine wp_last c i arg1 harg1 arg2 harg2 arg3 harg3 arg4 harg4 arg5 harg5 arg6 harg6 arg7 harg7 arg8 harg8 q T _ _ hT _ _ _ _ _ Q ?_
  unfold tileAt segsAt segs at H
  unfold tileAt segsAt
  simp only [List.foldl_cons, List.foldl_nil] at H ⊢
  exact H

end Cert.KernelIdeal.Hand

end
-- ==== Proof.Tiles.lean ====
/-
  The tiles in order: what the launch memory gives each tile, what the result holds after each, and the proof
  data of the pipeline that says so. A tile no segment meets leaves the result as the tile before it did.
-/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F] [∀ e, Nonempty (Elt F e)]

local notation "𝕄" => MT nD τ sig Unit (Elt F) ℕ (UR sig nD τ) ℕ

/-! ## A tile that meets no segment -/

section Idle

variable (i : grid0.Coords) (T : S17.Idx → Elt F .i32) (Y : S1024x512.Idx → Elt F .f32) (hT : ∀ k, 0 ≤ (tword T k).toInt)
  (v16 : FVec F S128x512 .f32) (v17 : BitVec 32) (v20 : IVec S128x1 32) (v21 : IVec S8x1 32)

/-- Segments that do not meet the tile leave the result alone. -/
theorem segsAt_of_unmet (h : ∀ s : Fin 16, k0_cond2 i (tword T s.castSucc) (tword T s.succ) ≠ 1#1) (l : List (Fin 16))
    (X : S16x512.Idx → Elt F .f32) : segsAt i T Y hT v16 v17 v20 v21 l X = X := by
  induction l generalizing X with
  | nil => rfl
  | cons s l ih =>
    have e : segAt i T Y hT v16 v17 v20 v21 s X = X := by unfold segAt segUpd; rw [dif_neg (h s)]
    show segsAt i T Y hT v16 v17 v20 v21 l (segAt i T Y hT v16 v17 v20 v21 s X) = X
    rw [e, ih]

end Idle

/-- Word `k` of the table, as the pipeline's idle condition reads it. -/
theorem atD_eq (pf : pre0.Contents (Elt F)) (k : Fin 17) : pf.atD 0 ![k.val] = tword (F := F) (pf 0) k := by
  have h : ∀ a : Fin 1, (![k.val] : Fin 1 → Nat) a + 1 ≤ S17.size a := by revert k; decide
  refine (dif_pos h).trans ?_
  refine congrArg (pf 0) (funext fun a => ?_)
  match a with
  | ⟨0, _⟩ => rfl

/-- A point idle for the result is not the first, and no segment meets its tile. -/
theorem unmet_of_idle (pf : pre0.Contents (Elt F)) (i : grid0.Coords) (h : idle0 pf 3 i = true) :
    k0_cond1 i ≠ 1#1 ∧ ∀ s : Fin 16, k0_cond2 i (tword (F := F) (pf 0) s.castSucc) (tword (F := F) (pf 0) s.succ) ≠ 1#1 := by
  simp only [idle0, Bool.and_eq_true, Bool.not_eq_true', beq_eq_false_iff_ne] at h
  obtain ⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩ := h
  refine ⟨h0, fun s => ?_⟩
  rw [← atD_eq pf s.castSucc, ← atD_eq pf s.succ]
  match s with
  | 0 => exact h1
  | 1 => exact h2
  | 2 => exact h3
  | 3 => exact h4
  | 4 => exact h5
  | 5 => exact h6
  | 6 => exact h7
  | 7 => exact h8
  | 8 => exact h9
  | 9 => exact h10
  | 10 => exact h11
  | 11 => exact h12
  | 12 => exact h13
  | 13 => exact h14
  | 14 => exact h15
  | 15 => exact h16
  | ⟨n + 16, hn⟩ => exact absurd hn (by omega)

/-! ## The proof data -/

variable (m : (ℓ : Loc nD τ sig) → Buf (Elt F) ℓ)

/-- The contents of the table at launch, which the pipeline's side condition admits. -/
def adm : (p : Fin 1) → (pcfgs (F := F) p).Adm
  | 0 => ⟨fun k => m (0, Proc.devRef .tc (pre0.ref k)), trivial⟩
  | ⟨_ + 1, h⟩ => absurd h (Nat.not_lt.2 (Nat.le_add_left _ _))

/-- The pipeline at those contents. -/
abbrev cfgA : Pipeline.Cfg sig Λ₀ := Pipeline.pin (pcfgs (F := F)) (adm m) 0

/-- The table at launch. -/
def tbl : S17.Idx → Elt F .i32 := (adm m 0).1 0

/-- The array of window `w` at launch. -/
def arr0 (c : Dev nD) (w : Fin (cfgA m).W) := m (c, Proc.devRef .tc (Pipeline.arrRef (cfgA m).spec w))

/-- The block of window `w` at point `t`. -/
def blkOf (c : Dev nD) (w : Fin (cfgA m).W) (t : Fin (cfgA m).N) :=
  (((cfgA m).win w).blk t).view.read (Elt F) (arr0 m c w)

/-- The first point. -/
abbrev first : Fin (cfgA m).N := t0_0

/-- The first layer's weights as the kernel keeps them. -/
def wA (c : Dev nD) : S1024x512.Idx → Elt F .bf16 := k0_pay52 (blkOf m c 1 (first m))
/-- The second layer's weights as the kernel keeps them. -/
def wB (c : Dev nD) : S512x512.Idx → Elt F .bf16 := k0_pay53 (blkOf m c 2 (first m))

variable (hT : ∀ k, 0 ≤ (tword (tbl m) k).toInt)

/-- The tile at point `t` laid over the result. -/
def step (c : Dev nD) (t : Fin (cfgA m).N) (X : S16x512.Idx → Elt F .f32) : S16x512.Idx → Elt F .f32 :=
  tileAt ((cfgA m).grid.coords t) (tbl m) hT (blkOf m c 0 t) (wA m c) (wB m c) segs X

/-- The result after the first `n + 1` tiles. -/
def accN (c : Dev nD) : (n : ℕ) → n < (cfgA m).N → S16x512.Idx → Elt F .f32
  | 0, h => step m hT c ⟨0, h⟩ k0_pay51
  | n + 1, h => step m hT c ⟨n + 1, h⟩ (accN c n (Nat.lt_of_succ_lt h))

/-- The result after the tile at point `t`. -/
def acc (c : Dev nD) (t : Fin (cfgA m).N) : S16x512.Idx → Elt F .f32 := accN m hT c t.val t.isLt

/-- What the region holds between the points: the scratch weights, named from the second point on, the scratch
    rows, half of the table, the generator register. -/
def inv (c : Dev nD) (n : ℕ) : sProp 𝕄 :=
  iprop((∃ A B, ⌜n ≠ 0 → A = wA m c ∧ B = wB m c⌝ ∗ owns (c : Thread nD τ) (Memref.whole cc0_scratch0) fullShare A
        ∗ owns (c : Thread nD τ) (Memref.whole cc0_scratch1) fullShare B)
    ∗ (∃ Y, owns (c : Thread nD τ) (Memref.whole cc0_scratch2) fullShare Y)
    ∗ owns (c : Thread nD τ) (Memref.whole main_arg1) fullShare.right (tbl m) ∗ ∃ r, prngReg c r)

/-- The proof data on core `c`: every input's block is left in place, the result is the tiles laid over it so far. -/
def dats (p : Fin 1) (c : Dev nD) : Dat τ (Elt F) Unit ℕ (UR sig nD τ) ℕ (Pipeline.pin (pcfgs (F := F)) (adm m) p) c :=
  match p with
  | 0 =>
    { A := fun w => arr0 m c w
      after := fun w t => match w with
        | 0 => blkOf m c 0 t
        | 1 => blkOf m c 1 t
        | 2 => blkOf m c 2 t
        | 3 => acc m hT c t
        | ⟨_ + 4, h⟩ => absurd h (Nat.not_lt.2 (Nat.le_add_left _ _))
      Φ := fun t => inv m c t.val
      q := fun _ => fullShare
      owed := fun _ => 0 }
  | ⟨_ + 1, h⟩ => absurd h (Nat.not_lt.2 (Nat.le_add_left _ _))

end Cert.KernelIdeal.Hand

end
-- ==== Proof.Frame.lean ====
/-
  The pipeline's run: what each window's buffer holds when the body runs, the body's obligation at every point,
  and the launch, whose end has the arguments unchanged and the result the columns of the last tile's result.
-/
module

public import proofs.«01_k».proof.Proof.Tiles
public import Idealize.ShloMosaic.Lib.Pipeline.TableIdle

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (hT : ∀ k, 0 ≤ (tword (tbl m) k).toInt)

/-! ## What the buffers hold -/

/-- The first tile's condition, of the point. -/
theorem cond1_iff (t : Fin (cfgA m).N) : k0_cond1 ((cfgA m).grid.coords t) = 1#1 ↔ t.val = 0 := by
  have h : ∀ t : Fin grid0.N, k0_cond1 (grid0.coords t) = 1#1 ↔ t.val = 0 := by decide +kernel
  exact h t

/-- A point idle for the result is not the first, and leaves the result alone. -/
theorem acc_of_idle (c : Dev nD) (t : Fin (cfgA m).N) (h : (cfgA m).idle 3 ((cfgA m).grid.coords t) = true) :
    ∃ ht : t.val ≠ 0, acc m hT c t = acc m hT c ⟨t.val - 1, by omega⟩ := by
  obtain ⟨h1, h2⟩ := unmet_of_idle (adm m 0).1 _ h
  have ht : t.val ≠ 0 := fun e => h1 ((cond1_iff m t).2 e)
  refine ⟨ht, ?_⟩
  match t, h, h1, h2, ht with
  | ⟨n + 1, hn⟩, h, h1, h2, _ => exact segsAt_of_unmet _ _ _ hT _ _ _ _ h2 segs _

/-- What the tile at a later point does is laid over what the tile before it left. -/
theorem acc_of_pos (c : Dev nD) (t : Fin (cfgA m).N) (ht : t.val ≠ 0) :
    acc m hT c t = step m hT c t (acc m hT c ⟨t.val - 1, by omega⟩) := by
  match t, ht with
  | ⟨n + 1, hn⟩, _ => rfl

/-- The result's block is written back at the last point only. -/
theorem flush3 (t : Fin (cfgA m).N) (ht : t.val + 1 < (cfgA m).N) : ((cfgA m).win 3).flush t = false := by
  have h : ¬ (t.val + 1 = (cfgA m).grid.N) := Nat.ne_of_lt ht
  unfold Pipeline.Window.flush
  rw [decide_eq_false h, decide_eq_false (fun h => h.2 rfl)]
  exact Bool.and_false _

/-- After the first point the result's buffer is not fresh. -/
theorem fresh3 (n : ℕ) (h : n < (cfgA m).N) (h0 : n ≠ 0) : (cfgA m).fresh 3 n = false := by
  induction n with
  | zero => exact absurd rfl h0
  | succ n ih =>
    rw [Pipeline.Cfg.fresh_succ _ _ n (Nat.lt_of_succ_lt h), flush3 m ⟨n, Nat.lt_of_succ_lt h⟩ h, Bool.false_or]
    rcases Nat.eq_zero_or_pos n with rfl | hn
    · cases hi : (cfgA m).idle 3 ((cfgA m).grid.coords ⟨0, Nat.lt_of_succ_lt h⟩)
      · rfl
      · exact absurd ((cond1_iff m _).2 rfl) (unmet_of_idle (adm m 0).1 _ hi).1
    · rw [ih (Nat.lt_of_succ_lt h) (by omega), Bool.and_false]

/-- What the result's buffer holds at a later point: the tiles so far. -/
theorem before3 (c : Dev nD) (t : Fin (cfgA m).N) (ht : t.val ≠ 0) (d) :
    (dats m hT 0 c).before 3 t d = acc m hT c ⟨t.val - 1, by omega⟩ := by
  rw [(dats m hT 0 c).before_out_traj 3 rfl (fun _ _ => rfl) (fun t ht hi _ => (acc_of_idle m hT c t hi).2) t.val t rfl d,
    fresh3 m t.val t.isLt ht]
  rfl

/-- What the tile's buffer holds: the tile. -/
theorem before0 (c : Dev nD) (t : Fin (cfgA m).N) (d) : (dats m hT 0 c).before 0 t d = blkOf m c 0 t :=
  (dats m hT 0 c).before_in_eq_fetched 0 rfl (fun _ => rfl) (fun _ _ _ => rfl) (fun _ => rfl) t d
/-- What the first layer's buffer holds: its weights. -/
theorem before1 (c : Dev nD) (t : Fin (cfgA m).N) (d) : (dats m hT 0 c).before 1 t d = blkOf m c 1 t :=
  (dats m hT 0 c).before_in_eq_fetched 1 rfl (fun _ => rfl) (fun _ _ _ => rfl) (fun _ => rfl) t d
/-- What the second layer's buffer holds: its weights. -/
theorem before2 (c : Dev nD) (t : Fin (cfgA m).N) (d) : (dats m hT 0 c).before 2 t d = blkOf m c 2 t :=
  (dats m hT 0 c).before_in_eq_fetched 2 rfl (fun _ => rfl) (fun _ _ _ => rfl) (fun _ => rfl) t d

/-! ## The body at a point -/

/-- What the body leaves in the result's buffer, as the pipeline states it: the tiles so far, or at an idle point
    what it found, which is the same. -/
def leaves3 (c : Dev nD) (t : Fin (cfgA m).N) : sProp 𝕄 :=
  match (cfgA m).idle 3 ((cfgA m).grid.coords t) with
  | true =>
    match ((cfgA m).win 3).flush t with
    | false => iprop(∃ d, owns (c : Thread nD τ) (((cfgA m).win 3).stage ((cfgA m).slots t 3)) fullShare ((dats m hT 0 c).before 3 t d))
    | true => owns (c : Thread nD τ) (((cfgA m).win 3).stage ((cfgA m).slots t 3)) fullShare ((dats m hT 0 c).after 3 t)
  | false => owns (c : Thread nD τ) (((cfgA m).win 3).stage ((cfgA m).slots t 3)) fullShare ((dats m hT 0 c).after 3 t)

/-- The tiles so far are what the body leaves. -/
theorem leaves3_intro (c : Dev nD) (t : Fin (cfgA m).N) :
    owns (c : Thread nD τ) (((cfgA m).win 3).stage ((cfgA m).slots t 3)) fullShare (acc m hT c t) ⊢ leaves3 m hT c t := by
  unfold leaves3
  split
  next hi =>
    obtain ⟨ht, e⟩ := acc_of_idle m hT c t hi
    split
    · have hb := before3 m hT c t ht k0_pay51
      iintro H
      iexists k0_pay51
      rw [hb, ← e]
      iexact H
    · exact .rfl
  · exact .rfl

/-- The body at point `t`, as the pipeline calls it. -/
abbrev bodyAt (t : Fin (cfgA m).N) : P F PUnit.{1} :=
  cc0__fused_kernel (grid0.coords t) (Memref.whole main_arg1) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (Memref.whole cc0_scratch0) (Memref.isWhole_whole _) (Memref.whole cc0_scratch1) (Memref.isWhole_whole _) (Memref.whole cc0_scratch2) (Memref.isWhole_whole _)

/-- What the body is called with at point `t`. -/
def bodyPre (c : Dev nD) (t : Fin (cfgA m).N) : sProp 𝕄 :=
  iprop((dats m hT 0 c).Φ t.castSucc ∗ (dats m hT 0 c).owesAt () t.castSucc
    ∗ (∃ d, owns (c : Thread nD τ) (((cfgA m).win 0).stage ((cfgA m).slots t 0)) fullShare ((dats m hT 0 c).before 0 t d))
    ∗ (∃ d, owns (c : Thread nD τ) (((cfgA m).win 1).stage ((cfgA m).slots t 1)) fullShare ((dats m hT 0 c).before 1 t d))
    ∗ (∃ d, owns (c : Thread nD τ) (((cfgA m).win 2).stage ((cfgA m).slots t 2)) fullShare ((dats m hT 0 c).before 2 t d))
    ∗ (∃ d, owns (c : Thread nD τ) (((cfgA m).win 3).stage ((cfgA m).slots t 3)) fullShare ((dats m hT 0 c).before 3 t d)))

/-- What it returns. -/
def bodyPost (c : Dev nD) (t : Fin (cfgA m).N) : sProp 𝕄 :=
  iprop((dats m hT 0 c).Φ t.succ ∗ (dats m hT 0 c).owesAt () t.succ
    ∗ owns (c : Thread nD τ) (((cfgA m).win 0).stage ((cfgA m).slots t 0)) fullShare (blkOf m c 0 t)
    ∗ owns (c : Thread nD τ) (((cfgA m).win 1).stage ((cfgA m).slots t 1)) fullShare (blkOf m c 1 t)
    ∗ owns (c : Thread nD τ) (((cfgA m).win 2).stage ((cfgA m).slots t 2)) fullShare (blkOf m c 2 t)
    ∗ leaves3 m hT c t)

/-- What the scratch weights and the result are after the body, whatever the point. -/
theorem after_body (c : Dev nD) (t : Fin (cfgA m).N) (A : S1024x512.Idx → Elt F .bf16) (B : S512x512.Idx → Elt F .bf16)
    (hAB : t.val ≠ 0 → A = wA m c ∧ B = wB m c) (d) :
    initA (grid0.coords t) (blkOf m c 1 t) A = wA m c ∧ initB (grid0.coords t) (blkOf m c 2 t) B = wB m c ∧
      tileAt (grid0.coords t) (tbl m) hT (blkOf m c 0 t) (wA m c) (wB m c) segs (initX (grid0.coords t) ((dats m hT 0 c).before 3 t d)) = acc m hT c t := by
  by_cases ht : t.val = 0
  · have h1 := (cond1_iff m t).2 ht
    obtain rfl : t = first m := Fin.ext ht
    refine ⟨if_pos h1, if_pos h1, ?_⟩
    rw [show initX (grid0.coords (first m)) ((dats m hT 0 c).before 3 (first m) d) = k0_pay51 from if_pos h1]
    rfl
  · have h1 := fun e => ht ((cond1_iff m t).1 e)
    obtain ⟨rfl, rfl⟩ := hAB ht
    refine ⟨if_neg h1, if_neg h1, ?_⟩
    rw [show initX (grid0.coords t) ((dats m hT 0 c).before 3 t d) = (dats m hT 0 c).before 3 t d from if_neg h1, before3 m hT c t ht d, acc_of_pos m hT c t ht]
    rfl

/-- The body at a point, from what it is called with to what it returns. -/
theorem sound_body (c : Dev nD) (t : Fin (cfgA m).N) :
    bodyPre m hT c t ⊢ wp frame (wpE (defs₀ (F := F)) Variants.none c none) Set.univ (bodyAt m t) (fun _ => bodyPost m hT c t) := by
  unfold bodyPre bodyPost
  simp only [before0, before1, before2]
  rw [show (dats m hT 0 c).Φ t.castSucc = inv m c t.val from rfl, show (dats m hT 0 c).Φ t.succ = inv m c (t.val + 1) from rfl]
  unfold inv Dat.owesAt Pipeline.owesWithin
  rw [show (dats m hT 0 c).owed t.castSucc = 0 from rfl, show (dats m hT 0 c).owed t.succ = 0 from rfl]
  iintro ⟨⟨⟨%A, %B, %hAB, HA, HB⟩, ⟨%Y, HY⟩, HT, Hg⟩, ⟨%W, %hW, HO⟩, ⟨%d0, H0⟩, ⟨%d1, H1⟩, ⟨%d2, H2⟩, ⟨%d3, H3⟩⟩
  obtain ⟨hA, hB, hX⟩ := after_body m hT c t A B hAB d3
  have hb := wp_body c (grid0.coords t) (Memref.whole main_arg1) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (Memref.whole cc0_scratch0) (Memref.isWhole_whole _) (Memref.whole cc0_scratch1) (Memref.isWhole_whole _) (Memref.whole cc0_scratch2) (Memref.isWhole_whole _)
    fullShare.right (tbl m) Y ((dats m hT 0 c).before 3 t d3) hT (blkOf m c 0 t) (blkOf m c 1 t) (blkOf m c 2 t) A B (fun _ => _) .rfl
  rw [hA, hB, hX] at hb
  unfold St rest at hb
  iapply (wp_wand_r frame _ Set.univ)
  isplitl [HA HB HY HT H0 H1 H2 H3]
  · iapply hb
    isplitl [HT]; · iexact HT
    isplitl [HY]; · iexact HY
    isplitl [H3]; · iexact H3
    isplitl [H0]; · iexact H0
    isplitl [H1]; · iexact H1
    isplitl [H2]; · iexact H2
    isplitl [HA]; · iexact HA
    iexact HB
  iintro %_ ⟨HT, HY, H3, H0, H1, H2, HA, HB⟩
  isplitl [HA HB HY HT Hg]
  · isplitl [HA HB]
    · iexists (wA m c), (wB m c)
      isplitr; · ipureintro; exact fun _ => ⟨rfl, rfl⟩
      isplitl [HA]; · iexact HA
      iexact HB
    isplitl [HY]; · iexists _; iexact HY
    isplitl [HT]; · iexact HT
    iexact Hg
  isplitl [HO]
  · iexists W; isplitr; · ipureintro; exact fun _ _ => Or.inl trivial
    iexact HO
  isplitl [H0]; · iexact H0
  isplitl [H1]; · iexact H1
  isplitl [H2]; · iexact H2
  iapply (leaves3_intro m hT c t); iexact H3

/-- The row of the body table at the point is the body as spelled above. -/
theorem defs₀_row (t : Fin (cfgA m).N) : defs₀ (F := F) .tc (cfgA m).body ((cfgA m).bodyArgs t ((cfgA m).slots t)) = bodyAt m t := by
  unfold defs₀; rw [Defs.onTc_tc]

/-- The body's obligation to the pipeline. -/
theorem body_obligation (c : Dev nD) :
    BodyObligationLoose (dats m hT 0 c) (defs₀ (F := F)) Variants.none () Set.univ := fun t => by
  rw [bigSep_W0, bigSep_W0, defs₀_row]
  exact triple_restated (sound_body m hT c t) rfl .rfl fun _ => .rfl

/-! ## The launch -/

variable (g : Dev nD → PrngReg)

/-- The contents the region is entered with: the launch memory. -/
abbrev V₀ (c : Dev nD) : Valuation τ sig (Elt F) := StableHlo.after ([] : List (List (HloOp τ sig (Elt F)))).flatten (fun b => m (c, b))

/-- The slice touches no table. -/
theorem slice_sub : ∀ ops ∈ [(hostOps1 : List (HloOp τ sig (Elt F)))], ∀ op ∈ ops, op.bufs ⊆ Pipeline.tailRefs (τ := τ) sig pre0 spec0 := by
  intro ops hops op hop
  rw [List.mem_singleton] at hops
  subst hops
  rw [List.mem_singleton] at hop
  subst hop
  refine Pipeline.sub_tailRefs pre0 spec0 _ (StableHlo.unary_bufs_sub ..) fun k hk => ?_
  have h : ∀ k : Fin pre0.K, pre0.ref k ≠ main_call0_v0 ∧ pre0.ref k ≠ main_v0 := by decide
  simp only [StableHlo.TRef.unary, StableHlo.unary_bufs, Finset.mem_insert, Finset.mem_singleton] at hk
  rcases hk with hk | hk
  · exact (h k).1 (Proc.devRef_injective _ hk)
  · exact (h k).2 (Proc.devRef_injective _ hk)

/-- The slice writes no array of the pipeline. -/
theorem slice_keep : ∀ ops ∈ [(hostOps1 : List (HloOp τ sig (Elt F)))], ∀ op ∈ ops, ∀ w : Fin 4,
    Proc.devRef .tc (Pipeline.arrRef spec0 w) ∉ op.writes := by
  intro ops hops op hop w hw
  rw [List.mem_singleton] at hops
  subst hops
  rw [List.mem_singleton] at hop
  subst hop
  simp only [StableHlo.TRef.unary, StableHlo.unary_writes, Finset.mem_singleton] at hw
  have h : ∀ w : Fin 4, Pipeline.arrRef spec0 w ≠ main_v0 := by decide
  exact h w (Proc.devRef_injective _ hw)

/-- What the launch hands the region is what it holds before the first point. -/
theorem inv_in (c : Dev nD) :
    iprop(Pipeline.ΦA (U := UR sig nD τ) (Val := Elt F) spec0 c ∗ Pipeline.ΦT (U := UR sig nD τ) pre0 (adm m 0).1 c) ⊢ (inv m c 0 : sProp 𝕄) := by
  have e : (Pipeline.ΦT (U := UR sig nD τ) pre0 (adm m 0).1 c : sProp 𝕄) = ((c : Thread nD τ).loc main_arg1 ↦{fullShare.right} tbl m) :=
    (bigSep_univ_eq_bigSepL [(0 : Fin 1)] (by decide) (by decide) _).trans rfl
  rw [e]
  unfold inv Pipeline.ΦA
  rw [scopedRest0_eq]
  simp only [owns_whole]
  iintro ⟨⟨⟨⟨%A, HA⟩, ⟨%B, HB⟩, ⟨%Y, HY⟩⟩, Hg⟩, HT⟩
  isplitl [HA HB]
  · iexists A, B
    isplitr; · ipureintro; exact fun h => absurd rfl h
    isplitl [HA]; · iexact HA
    iexact HB
  isplitl [HY]; · iexists Y; iexact HY
  isplitl [HT]; · iexact HT
  iexact Hg

/-- What it holds after the last is what the launch wants back. -/
theorem inv_out (c : Dev nD) (n : ℕ) : (inv m c n : sProp 𝕄) ⊢ Pipeline.ΦA (U := UR sig nD τ) (Val := Elt F) spec0 c := by
  unfold inv Pipeline.ΦA
  rw [scopedRest0_eq]
  simp only [owns_whole]
  iintro ⟨⟨%A, %B, -, HA, HB⟩, ⟨%Y, HY⟩, -, Hg⟩
  isplitl [HA HB HY]
  · isplitl [HA]; · iexists A; iexact HA
    isplitl [HB]; · iexists B; iexact HB
    iexists Y; iexact HY
  iexact Hg

-- the general theorem of the launch is applied to this kernel's own arrays and table
set_option backward.isDefEq.respectTransparency.types false in
/-- The run: it ends with every array as the pipeline left it, every other buffer as the slice that follows the
    region left it, and every semaphore at zero. -/
theorem run_main :
    θ_run defs (onTc (τ := τ) (main (F := F))) (s₀ m g)
      (fun r => Pipeline.FramePost (Pipeline.pin (pcfgs (F := F)) (adm m)) (dats m hT) 0
          (Pipeline.afterTail (pcfgs (F := F)) (adm m) (dats m hT) 0 (V₀ m) [hostOps1]) r ∧ r.2.sem = fun _ => 0) :=
  Pipeline.θ_run_frameP_around_track (Q' := _) (pcfgs (F := F)) (adm m) (dats m hT) 0 launch0 defs₀ Variants.none m g main
    (hbody := fun c => body_obligation m hT c) (hshare := fun c => (dats m hT 0 c).share_full fun _ => rfl) (howed := fun _ _ => rfl)
    (V₀ := V₀ m) (opss := [hostOps1])
    (hsub := slice_sub) (hfresh := fun ops hops op hop => by
      rw [List.mem_singleton] at hops; subst hops; rw [List.mem_singleton] at hop; subst hop; rfl)
    (hkeep := slice_keep)
    (hmain := Pipeline.hmainP_around _ 0 defs₀ Variants.none m main [] [hostOps1] trivial trivial fun c => main_chain c)
    (hA := fun _ _ => rfl) (hpf := fun c k => by obtain rfl := Subsingleton.elim c 0; rfl)
    (hin := fun c => inv_in m c) (hout := fun c => inv_out m c _)

end Cert.KernelIdeal.Hand

end
-- ==== Proof.Run.lean ====
/-
  The run read at the arguments and the result: the arguments end unchanged, and the result is the first five
  hundred columns of what the last tile left.
-/
module

public import proofs.«01_k».proof.Proof.Frame
public import Idealize.ShloMosaic.Lib.Pipeline.Value
public import Idealize.ShloMosaic.Lib.StableHlo.Run

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (hT : ∀ k, 0 ≤ (tword (tbl m) k).toInt) (g : Dev nD → PrngReg)

/-- The contents of the unscoped buffers at the end. -/
abbrev last (c : Dev nD) (b : Ref sig .tc) : Buf (Elt F) ((c : Thread nD τ).loc b) :=
  Pipeline.afterTail (pcfgs (F := F)) (adm m) (dats m hT) 0 (V₀ m) [hostOps1] c b

/-- A buffer that is neither an array of the pipeline nor the result ends as it was at launch. -/
theorem last_keep (c : Dev nD) (b : Ref sig .tc) (hb : b ≠ main_v0) (ha : ∀ w, Pipeline.arrRef spec0 w ≠ b) :
    last m hT c b = m ((c : Thread nD τ).loc b) := by
  refine (StableHlo.after_of_forall_not_mem hostOps1 _ fun op hop hw => ?_).trans ?_
  · rw [List.mem_singleton] at hop
    subst hop
    simp only [StableHlo.TRef.unary, StableHlo.unary_writes, Finset.mem_singleton] at hw
    exact hb (Proc.devRef_injective _ hw)
  exact Pipeline.withArrays_of_ne spec0 c _ _ b ha

/-- The last point. -/
abbrev lastPt : Fin (cfgA m).N := t0_15

/-- What the last tile left of the result. -/
def total (c : Dev nD) : S16x512.Idx → Elt F .f32 := acc m hT c (lastPt m)

/-- The pipeline's result array ends holding what the last tile left. -/
theorem final3 (c : Dev nD) : (dats m hT 0 c).arrAt 3 (cfgA m).N = total m hT c := by
  have hfl : ∀ t : Fin (cfgA m).N, ((cfgA m).win 3).flush t = true → t = lastPt m := fun t hf => by
    have h16 : (cfgA m).N = 16 := N_0
    have ht : ¬ t.val + 1 < (cfgA m).N := fun h => absurd ((flush3 m t h).symm.trans hf) (by decide)
    have hv : (lastPt m).val = 15 := rfl
    exact Fin.ext (by have := t.isLt; omega)
  have hz : (fun a => ((cfgA m).win 3).index (lastPt m) a * main_call0_v0.ty.shape.size a) = fun _ => 0 := funext fun a => by
    match a with
    | ⟨0, _⟩ => rfl
    | ⟨1, _⟩ => rfl
  refine (dats m hT 0 c).arrAt_eq_of_cover 3 (total m hT c) (fun t hf => ?_) fun i => ⟨lastPt m, ?_, ?_⟩
  · obtain rfl := hfl t hf
    exact (Memref.read_access_unit_zero (Elt F) main_call0_v0 hz (fun a => by rw [congrFun hz a]; simp) (total m hT c)).symm
  · unfold Pipeline.Window.flush
    rfl
  · have h : i ∈ (Rect.unit (s := main_call0_v0.ty.shape) (fun a => ((cfgA m).win 3).index (lastPt m) a * main_call0_v0.ty.shape.size a) main_call0_v0.ty.shape.size fun a => by rw [congrFun hz a]; simp).set :=
      (Rect.mem_set_unit ..).2 fun a => ⟨(congrFun hz a).le.trans (Nat.zero_le _), lt_of_lt_of_eq (i a).isLt ((congrArg (· + _) (congrFun hz a)).trans (Nat.zero_add _)).symm⟩
    exact Eq.mpr (congrArg (i ∈ ·) (View.set_slice_whole main_call0_v0 _)) h

/-- The slice after the region leaves the first five hundred columns of the pipeline's result. -/
theorem last_v0 (c : Dev nD) :
    last m hT c main_v0 = extractStridedSlice S16x500 ![0, 0] (total m hT c) slices_S16x512_S16x500_0_0 := by
  have e := Pipeline.withArrays_arr spec0 (launch0 (F := F)).win.arr_inj c (V₀ m c) (fun w => (dats m hT 0 c).arrAt w (cfgA m).N) 3
  show StableHlo.after hostOps1 (Pipeline.withArrays spec0 c (V₀ m c) fun w => (dats m hT 0 c).arrAt w (cfgA m).N) (Proc.devRef .tc main_v0) = _
  rw [← final3 m hT c, ← e]
  after_results
  rfl

/-- An unscoped buffer that is no array of the pipeline is one the run's end speaks of. -/
theorem rest_mem (b : Ref sig .tc) (hs : b.isScoped = false) (ha : ∀ w : Fin 4, Pipeline.arrRef spec0 w ≠ b) :
    b ∈ Pipeline.restRefs sig (Pipeline.pin (pcfgs (F := F)) (adm m) 0).spec := Pipeline.mem_restRefs_of b hs ha

/-- The run at the arguments and the result. -/
theorem run_args :
    θ_run defs (onTc (τ := τ) (main (F := F))) ⟨m, fun _ => 0, g⟩ (fun r =>
      (∀ c : Dev nD, r.2.mem ((c : Thread nD τ).loc main_v0) = extractStridedSlice S16x500 ![0, 0] (total m hT c) slices_S16x512_S16x500_0_0
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5))
      ∧ r.2.sem = fun _ => 0) := by
  refine (θ_run defs _ _).mono (fun r h => ⟨fun c => ?_, h.2⟩) (run_main m hT g)
  obtain ⟨hw, hr⟩ := h.1 c
  refine ⟨(hr main_v0 (rest_mem m main_v0 rfl (by decide))).trans (last_v0 m hT c),
    (hw 0).trans ((dats m hT 0 c).arrAt_in 0 rfl _),
    (hr main_arg1 (rest_mem m main_arg1 rfl (by decide))).trans (last_keep m hT c main_arg1 (by decide) (by decide)),
    (hw 1).trans ((dats m hT 0 c).arrAt_in 1 rfl _),
    (hr main_arg3 (rest_mem m main_arg3 rfl (by decide))).trans (last_keep m hT c main_arg3 (by decide) (by decide)),
    (hw 2).trans ((dats m hT 0 c).arrAt_in 2 rfl _),
    (hr main_arg5 (rest_mem m main_arg5 rfl (by decide))).trans (last_keep m hT c main_arg5 (by decide) (by decide))⟩

end Cert.KernelIdeal.Hand

end
-- ==== Proof.Transport.lean ====
/-
  The kernel as printed and its idealized form are one program text in two namespaces: their definitions and their
  main functions are equal at any arithmetic, so what is proved of the one run holds of the other.
-/
module

public import proofs.«01_k».proof.Proof.Gen.Kernel
public import proofs.«01_k».proof.Proof.Run

@[expose] public section

set_option maxRecDepth 16384
set_option maxHeartbeats 2000000

noncomputable section

namespace Cert.Transport

open Idealize.ShloMosaic Idealize.ShloMosaic.TcCoe Idealize.SL.Sem

variable {F : FTy → Type} [FloatOps F]

/-- The two programs call the same body. -/
theorem defs₀_eq : @Cert.Kernel.defs₀ F _ Cert.Kernel.Gen.facts = @Cert.KernelIdeal.defs₀ F _ Cert.KernelIdeal.Gen.facts := by
  unfold Cert.Kernel.defs₀ Cert.KernelIdeal.defs₀
  refine congrArg (Defs.onTc (Λ := Cert.KernelIdeal.Λ₀)) ?_
  funext l x
  match l, x with
  | 0, (t, s) => rfl

/-- The two programs' definitions are the same. -/
theorem defs_eq : @Cert.Kernel.defs F _ Cert.Kernel.Gen.facts = @Cert.KernelIdeal.defs F _ Cert.KernelIdeal.Gen.facts := by
  unfold Cert.Kernel.defs Cert.KernelIdeal.defs
  exact congrArg (Pipeline.defs (Cert.KernelIdeal.pcfgs (F := F))) defs₀_eq

/-- The two programs' main functions are the same. -/
theorem main_eq : @Cert.Kernel.main F _ Cert.Kernel.Gen.facts = @Cert.KernelIdeal.main F _ Cert.KernelIdeal.Gen.facts := rfl

/-- What every run of the idealized text satisfies, every run of the printed one does. -/
theorem run_of_ideal {m : (ℓ : Loc Cert.Kernel.nD Cert.Kernel.τ Cert.Kernel.sig) → Buf (Elt F) ℓ} {g : Dev Cert.Kernel.nD → PrngReg} {Q}
    (h : θ_run (Cert.KernelIdeal.defs (F := F)) (onTc (τ := Cert.KernelIdeal.τ) (Cert.KernelIdeal.main (F := F)))
      ⟨m, fun _ => 0, g⟩ Q) :
    θ_run (Cert.Kernel.defs (F := F)) (onTc (τ := Cert.Kernel.τ) (Cert.Kernel.main (F := F))) ⟨m, fun _ => 0, g⟩ Q := by
  rw [defs_eq, main_eq]
  exact h

end Cert.Transport

end
-- ==== Proof.Table.lean ====
/-
  The table of offsets that the kernel prefetches, word by word.
-/
module

public import proofs.«01_k».proof.Proof.Tiles
public import Idealize.ShloMosaic.Lib.Pointwise.Index

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F] [∀ e, Nonempty (Elt F e)]

local notation "𝕄" => MT nD τ sig Unit (Elt F) ℕ (UR sig nD τ) ℕ

/-- Word `k` of a table is its element `k`. -/
theorem tword_eq (T : S17.Idx → Elt F .i32) (k : Fin 17) : tword T k = T (ix1 k) :=
  congrArg T (funext fun a => match a with
    | ⟨0, _⟩ => Fin.ext (show k.val + 1 * 0 = k.val from rfl))

/-- The table is the array of offsets. -/
theorem tbl_eq (m : (ℓ : Loc nD τ sig) → Buf (Elt F) ℓ) :
    tbl m = m (((0 : Dev nD) : Thread nD τ).loc main_arg1) := rfl

end Cert.KernelIdeal.Hand

end
-- ==== Proof.Offsets.lean ====
/-
  The precondition `offsets` read back as mathematics: it is a test of every offset, and being one means that
  every test passed.
-/
module

public import proofs.«01_k».proof.Proof.Gen.Pre_offsets
public import Idealize.ShloMosaic.Lib.ReduceAll
public import Idealize.ShloMosaic.Lib.Pointwise.Index

@[expose] public section

noncomputable section

namespace Cert.Offsets

open Idealize.ShloMosaic

variable {F : FTy → Type} [FloatOps F]

/-- `offsets` says that no offset is negative. -/
theorem nonneg_of_offsets (x : FVec F Cert.Pre_offsets.S16384x1024 .f32) (p : IVec Cert.Pre_offsets.S17 32)
    (w0 : FVec F Cert.Pre_offsets.S500x1024 .f32) (b0 : FVec F Cert.Pre_offsets.S500 .f32)
    (w1 : FVec F Cert.Pre_offsets.S500x500 .f32) (b1 : FVec F Cert.Pre_offsets.S500 .f32)
    (h : Cert.Pre_offsets.fn x p w0 b0 w1 b1 = fun _ => 1#1) (i : Cert.Pre_offsets.S17.Idx) : 0 ≤ (p i).toInt :=
  IntOp.cmpi_sge.1 (Host.reduce_andi_all _ _ _ _ ix0 (congrFun h ix0) i)

end Cert.Offsets

end
-- ==== Proof.Sorted.lean ====
/-
  The precondition `pre` read back as mathematics: it is a conjunction of "every element satisfies …" tests, and
  being one means that every test passed at every element.
-/
module

public import proofs.«01_k».proof.Proof.Gen.Pre_pre
public import Idealize.ShloMosaic.Lib.ReduceAll
public import Idealize.ShloMosaic.Lib.Pointwise.Index

@[expose] public section

noncomputable section

namespace Cert.Sorted

open Idealize.ShloMosaic

variable {F : FTy → Type} [FloatOps F]

/-- A conjunction of two bits is one only if both are. -/
theorem both_of_and {a b : BitVec 1} (h : IntOp.andi a b = 1#1) : a = 1#1 ∧ b = 1#1 := by
  revert h; revert a b; decide

variable (x : FVec F Cert.Pre_pre.S16384x1024 .f32) (p : IVec Cert.Pre_pre.S17 32)
    (w0 : FVec F Cert.Pre_pre.S500x1024 .f32) (b0 : FVec F Cert.Pre_pre.S500 .f32)
    (w1 : FVec F Cert.Pre_pre.S500x500 .f32) (b1 : FVec F Cert.Pre_pre.S500 .f32)
    (h : Cert.Pre_pre.fn x p w0 b0 w1 b1 = fun _ => 1#1)

include h

/-- `pre` is four tests in one: its three conjunctions taken apart. -/
theorem parts :
    (∀ i, 0 ≤ (p i).toInt)
    ∧ (∀ i, (extractStridedSlice Cert.Pre_pre.S16 ![0] p Cert.Pre_pre.Gen.slices_S17_S16_0 i).toInt
        ≤ (extractStridedSlice Cert.Pre_pre.S16 ![1] p Cert.Pre_pre.Gen.slices_S17_S16_1 i).toInt)
    ∧ (∀ i, FloatOps.cmpf .oeq (b0 i) (FloatOps.ofBits .f32 0x00000000#32) = 1#1)
    ∧ (∀ i, FloatOps.cmpf .oeq (b1 i) (FloatOps.ofBits .f32 0x00000000#32) = 1#1) := by
  obtain ⟨h3, h4⟩ := both_of_and (congrFun h ix0)
  obtain ⟨h2, h3⟩ := both_of_and h3
  obtain ⟨h1, h2⟩ := both_of_and h2
  exact ⟨fun i => IntOp.cmpi_sge.1 (Host.reduce_andi_all _ _ _ _ ix0 h1 i),
    fun i => IntOp.cmpi_sle.1 (Host.reduce_andi_all _ _ _ _ ix0 h2 i),
    Host.reduce_andi_all _ _ _ _ ix0 h3, Host.reduce_andi_all _ _ _ _ ix0 h4⟩

/-- `pre` says that no offset is negative. -/
theorem nonneg_of_pre (i : Cert.Pre_pre.S17.Idx) : 0 ≤ (p i).toInt := (parts x p w0 b0 w1 b1 h).1 i

/-- `pre` says that each offset is at most the next. -/
theorem le_next_of_pre (s : Fin 16) :
    (p (ix1 s.castSucc)).toInt ≤ (p (ix1 s.succ)).toInt := by
  have e := (parts x p w0 b0 w1 b1 h).2.1 (ix1 s)
  have h0 : extractStridedSlice Cert.Pre_pre.S16 ![0] p Cert.Pre_pre.Gen.slices_S17_S16_0 (ix1 s) = p (ix1 s.castSucc) :=
    congrArg p (funext fun a => match a with | ⟨0, _⟩ => Fin.ext (Nat.zero_add s.val))
  have h1 : extractStridedSlice Cert.Pre_pre.S16 ![1] p Cert.Pre_pre.Gen.slices_S17_S16_1 (ix1 s) = p (ix1 s.succ) :=
    congrArg p (funext fun a => match a with | ⟨0, _⟩ => Fin.ext (Nat.add_comm 1 s.val))
  rw [h0, h1] at e
  exact e

end Cert.Sorted

end
-- ==== Proof.Biases.lean ====
/-
  The precondition `pre` over the reals: both biases are zero.
-/
module

public import proofs.«01_k».proof.Proof.Sorted
public import Idealize.ShloMosaic.PureOps.Ideal

@[expose] public section

noncomputable section

namespace Cert.Sorted

open Idealize.ShloMosaic

/-- Over the reals, a value that compares equal to the zero word is zero. -/
theorem zero_of_oeq (a : Ideal .f32) (e : FloatOps.cmpf .oeq a (FloatOps.ofBits .f32 0x00000000#32) = 1#1) : a = (0 : EReal) := by
  have e' : BitVec.ofBool (decide ((a : EReal) = Ideal.ofBits .f32 0x00000000#32)) = 1#1 := e
  have hz : Ideal.ofBits .f32 0x00000000#32 = 0 := by simp [Ideal.ofBits, Ideal.ieee]
  rw [hz] at e'
  by_contra hne
  rw [decide_eq_false hne] at e'
  exact absurd e' (by decide)

/-- Over the reals, `pre` says that both biases are zero. -/
theorem biases_of_pre (x : FVec Ideal Cert.Pre_pre.S16384x1024 .f32) (p : IVec Cert.Pre_pre.S17 32)
    (w0 : FVec Ideal Cert.Pre_pre.S500x1024 .f32) (b0 : FVec Ideal Cert.Pre_pre.S500 .f32)
    (w1 : FVec Ideal Cert.Pre_pre.S500x500 .f32) (b1 : FVec Ideal Cert.Pre_pre.S500 .f32)
    (h : Cert.Pre_pre.fn (F := Ideal) x p w0 b0 w1 b1 = fun _ => 1#1) :
    (∀ i, b0 i = (0 : EReal)) ∧ ∀ i, b1 i = (0 : EReal) :=
  ⟨fun i => zero_of_oeq _ ((parts x p w0 b0 w1 b1 h).2.2.1 i), fun i => zero_of_oeq _ ((parts x p w0 b0 w1 b1 h).2.2.2 i)⟩

end Cert.Sorted

end
-- ==== Proof.Blocks.lean ====
/-
  The blocks the kernel reads, read at the launch memory: tile `t` of the rows, and the whole of both weights.
-/
module

public import proofs.«01_k».proof.Proof.Tiles
public import Idealize.ShloMosaic.Lib.Pointwise.Index

@[expose] public section

set_option maxRecDepth 16384

noncomputable section

namespace Cert.KernelIdeal.Hand

open Cert.KernelIdeal Cert.KernelIdeal.Gen
open Idealize.ShloMosaic Idealize.ShloMosaic.TcCoe

/-- A tile's coordinate is its number. -/
theorem coords_val (t : Fin grid0.N) : (grid0.coords t 0).val = t.val := by
  have h : ∀ t : Fin grid0.N, (grid0.coords t 0).val = t.val := by decide +kernel
  exact h t

/-- A tile's block of rows starts at 1024 times its number. -/
theorem rows_at (t : Fin grid0.N) : cc0_transform_0 (grid0.coords t) 0 = t.val := by
  have h : ∀ t : Fin grid0.N, cc0_transform_0 (grid0.coords t) 0 = t.val := by decide +kernel
  exact h t

variable (m : (ℓ : Loc nD τ sig) → Buf (Elt Ideal) ℓ) (c : Dev nD)

/-- Row `r` of tile `t`. -/
def rowAt (t : Fin grid0.N) (r : Fin 1024) : Fin 16384 := ⟨1024 * t.val + r.val, by
  have h : t.val < 16 := t.isLt.trans_eq N_0
  omega⟩

/-- A tile's rows are the rows of the first argument at its place. -/
theorem blk_rows (t : Fin (cfgA m).N) (r d : Fin 1024) :
    blkOf m c 0 t (ix2 r d) = m ((c : Thread nD τ).loc main_arg0) (ix2 (rowAt t r) d) := by
  refine congrArg (m ((c : Thread nD τ).loc main_arg0))
    (show (((cfgA m).win 0).blk t).view.emb (ix2 r d) = _ from funext fun a => Fin.ext ?_)
  match a with
  | ⟨0, _⟩ =>
    show cc0_transform_0 (grid0.coords t) 0 * 1024 + 1 * r.val = 1024 * t.val + r.val
    rw [rows_at]; omega
  | ⟨1, _⟩ =>
    show 0 * 1024 + 1 * d.val = d.val
    omega

/-- The first layer's weights are read whole. -/
theorem blk_first (t : Fin (cfgA m).N) : blkOf m c 1 t = m ((c : Thread nD τ).loc main_arg2) := by
  refine funext fun (j : S500x1024.Idx) => ?_
  refine congrArg (m ((c : Thread nD τ).loc main_arg2))
    (show (((cfgA m).win 1).blk t).view.emb j = _ from funext fun a => Fin.ext ?_)
  match a with
  | ⟨0, _⟩ => show 0 * 500 + 1 * (j 0).val = (j 0).val; omega
  | ⟨1, _⟩ => show 0 * 1024 + 1 * (j 1).val = (j 1).val; omega

/-- The second layer's weights are read whole. -/
theorem blk_second (t : Fin (cfgA m).N) : blkOf m c 2 t = m ((c : Thread nD τ).loc main_arg4) := by
  refine funext fun (j : S500x500.Idx) => ?_
  refine congrArg (m ((c : Thread nD τ).loc main_arg4))
    (show (((cfgA m).win 2).blk t).view.emb j = _ from funext fun a => Fin.ext ?_)
  match a with
  | ⟨0, _⟩ => show 0 * 500 + 1 * (j 0).val = (j 0).val; omega
  | ⟨1, _⟩ => show 0 * 500 + 1 * (j 1).val = (j 1).val; omega

end Cert.KernelIdeal.Hand

end
-- ==== Proof.Rows.lean ====
/-
  What a row of the result becomes where a segment meets a tile, over the reals: the old row with the maximum of the
  tile's rows in the segment. The groups of eight rows that lie in the segment are read by their maxima, the groups in
  which it begins and ends row by row; between them these are the rows of the segment and no others. A maximum is
  known by its upper bounds, so everything here says what it is for one to be at most `c`.
-/
module

public import proofs.«01_k».proof.Proof.Words
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe

/-- The word that the kernel writes for −∞. -/
theorem ofBits_bot : Ideal.ofBits .f32 0xFF800000#32 = ⊥ := by simp [Ideal.ofBits, Ideal.ieee]

/-- The maximum of the values that a mask selects is at most `c` where each of them is. -/
theorem masked_le {n : Nat} (b : Fin n → BitVec 1) (v : Fin n → EReal) (c : EReal) :
    Finset.fold max (Ideal.ofBits .f32 0xFF800000#32) (fun x => Scalar.select (b x) (v x) (Ideal.ofBits .f32 0xFF800000#32)) Finset.univ ≤ c
      ↔ ∀ x, b x = 1#1 → v x ≤ c := by
  rw [ofBits_bot, Finset.fold_max_le]
  refine ⟨fun h x hx => ?_, fun h => ⟨bot_le, fun x _ => ?_⟩⟩
  · have := h.2 x (Finset.mem_univ x)
    rw [hx] at this
    exact this
  · by_cases hx : b x = 1#1
    · rw [hx]; exact h x hx
    · unfold Scalar.select
      rw [if_neg (show ¬ b x = 1 from hx)]; exact bot_le

/-- Row `x` of the block that begins at row `n` lies between the bounds `L` and `H`. -/
theorem inside_iff {w llo lhi : BitVec 32} {n L H x : Nat} (hw : Affine.IsInt w n) (hl : Affine.IsInt llo L)
    (hh : Affine.IsInt lhi H) (hn : n ≤ 8192) (hx : x < 8) :
    IntOp.andi (IntOp.cmpi .sge (IntOp.addi (BitVec.ofNat 32 x) w) llo)
      (IntOp.cmpi .slt (IntOp.addi (BitVec.ofNat 32 x) w) lhi) = 1#1 ↔ L ≤ n + x ∧ n + x < H := by
  have ha : (IntOp.addi (BitVec.ofNat 32 x) w).toInt = (n + x : Nat) :=
    toInt_of (Affine.addi (Affine.ofNat x (e := x) (by omega)) hw (by omega))
  refine (IntOp.andi_eq_one.trans (and_congr IntOp.cmpi_sge IntOp.cmpi_slt)).trans ?_
  rw [ha, toInt_of hl, toInt_of hh]
  omega

/-- Group `g` of eight rows lies between the bounds `L` and `H`. -/
theorem group_iff {llo lhi : BitVec 32} {L H g : Nat} (hl : Affine.IsInt llo L) (hh : Affine.IsInt lhi H) (hg : g < 128) :
    IntOp.andi (IntOp.cmpi .sge (IntOp.muli (BitVec.ofNat 32 g) 8#32) llo)
      (IntOp.cmpi .sle (IntOp.addi (IntOp.muli (BitVec.ofNat 32 g) 8#32) 8#32) lhi) = 1#1 ↔ L ≤ 8 * g ∧ 8 * g + 8 ≤ H := by
  have hm : Affine.IsInt (IntOp.muli (BitVec.ofNat 32 g) 8#32) (8 * g : Nat) :=
    Affine.muli (Affine.ofNat g (e := g) (by omega)) (Affine.ofNat 8 (e := 8) (by omega)) (by omega)
  have ha : (IntOp.addi (IntOp.muli (BitVec.ofNat 32 g) 8#32) 8#32).toInt = (8 * g + 8 : Nat) :=
    toInt_of (Affine.addi hm (Affine.ofNat 8 (e := 8) (by omega)) (by omega))
  refine (IntOp.andi_eq_one.trans (and_congr IntOp.cmpi_sge IntOp.cmpi_sle)).trans ?_
  rw [toInt_of hm, ha, toInt_of hl, toInt_of hh]
  omega

/-- The groups that lie in a segment, by their maxima. -/
theorem coarse_le (i : grid0.Coords) (v16 : FVec Ideal S128x512 .f32) {lo hi : BitVec 32} (hlo : 0 ≤ lo.toInt) (hhi : 0 ≤ hi.toInt)
    (o : Fin 512) (c : EReal) :
    k0_pay3 v16 (row0 i) k0_pay57 lo hi (ix1 o) ≤ c
      ↔ ∀ g : Fin 128, loc i lo ≤ 8 * g.val → 8 * g.val + 8 ≤ loc i hi → v16 (ix2 g o) ≤ c := by
  pointwise [k0_pay3, k0_pay57]
  rw [masked_le]
  exact forall_congr' fun g => (imp_congr_left (group_iff (isInt_locW i hlo) (isInt_locW i hhi) g.isLt)).trans and_imp

/-- The rows of the block in which a segment begins, beside an earlier maximum `v`. -/
theorem begin_le (i : grid0.Coords) (v : FVec Ideal S512 .f32) (A : FVec Ideal S8x512 .f32) {lo hi : BitVec 32}
    (hlo : 0 ≤ lo.toInt) (hhi : 0 ≤ hi.toInt) (o : Fin 512) (c : EReal) :
    k0_pay4 (iota .tc S8x1 32 [0] iota_S8x1_d0_w32) (locW lo (row0 i)) (locW hi (row0 i)) v (fdiv8 (locW lo (row0 i))) A (ix1 o) ≤ c
      ↔ v (ix1 o) ≤ c ∧ ∀ x : Fin 8, loc i lo ≤ 8 * (loc i lo / 8) + x.val → 8 * (loc i lo / 8) + x.val < loc i hi → A (ix2 x o) ≤ c := by
  have := loc_le i lo
  pointwise [k0_pay4]
  rw [max_le_iff, masked_le]
  exact and_congr_right' (forall_congr' fun x => (imp_congr_left (inside_iff (isInt_mul8 (isInt_gb i hlo) (by omega))
    (isInt_locW i hlo) (isInt_locW i hhi) (by omega) x.isLt)).trans and_imp)

/-- The rows of the block in which a segment ends, beside an earlier maximum `v` and the old row `r`. -/
theorem end_le (i : grid0.Coords) (v : FVec Ideal S512 .f32) (B : FVec Ideal S8x512 .f32) (r : FVec Ideal S1x512 .f32) {lo hi : BitVec 32}
    (hlo : 0 ≤ lo.toInt) (hhi : 0 ≤ hi.toInt) (hp : 0 < loc i hi) (o : Fin 512) (c : EReal) :
    k0_pay58 v B (k0_pay5 (iota .tc S8x1 32 [0] iota_S8x1_d0_w32) (locW lo (row0 i)) (locW hi (row0 i)) (Scalar.subi (locW hi (row0 i)) 1#32) 8#32
        (Scalar.divsi (Scalar.subi (locW hi (row0 i)) 1#32) 8#32) (sgnW (Scalar.subi (locW hi (row0 i)) 1#32)))
      (Scalar.ofBits .f32 0xFF800000#32) r (ix2 0 o) ≤ c
      ↔ r (ix2 0 o) ≤ c ∧ v (ix1 o) ≤ c
        ∧ ∀ x : Fin 8, loc i lo ≤ 8 * ((loc i hi - 1) / 8) + x.val → 8 * ((loc i hi - 1) / 8) + x.val < loc i hi → B (ix2 x o) ≤ c := by
  have := loc_le i hi
  pointwise [k0_pay58, k0_pay5]
  rw [max_le_iff, max_le_iff, masked_le]
  exact and_congr_right' (and_congr_right' (forall_congr' fun x => (imp_congr_left (inside_iff (isInt_mul8 (isInt_ge i hhi hp) (by omega))
    (isInt_locW i hlo) (isInt_locW i hhi) (by omega) x.isLt)).trans and_imp))

/-- The groups in a segment with the two boundary blocks are the segment. -/
theorem cover (Q : Nat → Prop) (L H : Nat) (hH : H ≤ 1024) :
    ((∀ g : Fin 128, L ≤ 8 * g.val → 8 * g.val + 8 ≤ H → ∀ x : Fin 8, Q (8 * g.val + x.val))
      ∧ (∀ x : Fin 8, L ≤ 8 * (L / 8) + x.val → 8 * (L / 8) + x.val < H → Q (8 * (L / 8) + x.val))
      ∧ ∀ x : Fin 8, L ≤ 8 * ((H - 1) / 8) + x.val → 8 * ((H - 1) / 8) + x.val < H → Q (8 * ((H - 1) / 8) + x.val))
      ↔ ∀ t, L ≤ t → t < H → Q t := by
  refine ⟨fun ⟨h1, h2, h3⟩ t hl hh => ?_, fun h => ⟨fun g hl hh x => h _ (by omega) (by omega), fun x => h _, fun x => h _⟩⟩
  have e : 8 * (t / 8) + t % 8 = t := Nat.div_add_mod t 8
  have hm : t % 8 < 8 := Nat.mod_lt _ (by omega)
  by_cases hb : t / 8 = L / 8
  · have := h2 ⟨t % 8, hm⟩
    rw [← hb, e] at this
    exact this hl hh
  by_cases he : t / 8 = (H - 1) / 8
  · have := h3 ⟨t % 8, hm⟩
    rw [← he, e] at this
    exact this hl hh
  have := h1 ⟨t / 8, by omega⟩ (by show L ≤ 8 * (t / 8); omega) (by show 8 * (t / 8) + 8 ≤ H; omega) ⟨t % 8, hm⟩
  rwa [e] at this

/-- A row's new value is at most `c` where the old one and every row of the tile in the segment is. -/
theorem rowNew_le (i : grid0.Coords) (Y : Nat → Fin 512 → EReal) (v16 : FVec Ideal S128x512 .f32) (A B : FVec Ideal S8x512 .f32)
    (r : FVec Ideal S1x512 .f32) {lo hi : BitVec 32} (hlo : 0 ≤ lo.toInt) (hhi : 0 ≤ hi.toInt) (hp : 0 < loc i hi) (o : Fin 512) (c : EReal)
    (h16 : ∀ g : Fin 128, v16 (ix2 g o) ≤ c ↔ ∀ x : Fin 8, Y (8 * g.val + x.val) o ≤ c)
    (hA : ∀ x : Fin 8, A (ix2 x o) = Y (8 * (loc i lo / 8) + x.val) o)
    (hB : ∀ x : Fin 8, B (ix2 x o) = Y (8 * ((loc i hi - 1) / 8) + x.val) o) :
    rowNew v16 (row0 i) k0_pay57 (iota .tc S8x1 32 [0] iota_S8x1_d0_w32) lo hi A B r (ix2 0 o) ≤ c
      ↔ r (ix2 0 o) ≤ c ∧ ∀ t, loc i lo ≤ t → t < loc i hi → Y t o ≤ c := by
  unfold rowNew
  rw [end_le i _ _ _ hlo hhi hp, begin_le i _ _ hlo hhi, coarse_le i _ hlo hhi, ← cover (fun t => Y t o ≤ c) _ _ (loc_le i hi), and_assoc]
  simp only [h16, hA, hB]

end Cert.KernelIdeal.Hand

end
-- ==== Proof.Layers.lean ====
/-
  The two dense layers of a tile, over the reals: the weights are padded with zeros, which add nothing, so an entry of
  the tile is the plain double sum over the weights as they are given.
-/
module

public import proofs.«01_k».proof.Proof.Gen.KernelIdeal.Skeleton
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe

/-- A column of the padded result that is a column of the result. -/
abbrev wide (o : Fin 500) : Fin 512 := ⟨o.val, by omega⟩

/-- A sum over the padded hidden units is one over the hidden units, where the padding adds zero. -/
theorem sum_wide (f : Fin 512 → EReal) (h : ∀ k : Fin 512, 500 ≤ k.val → f k = 0) : ∑ k, f k = ∑ k : Fin 500, f (wide k) := by
  refine (Fin.sum_univ_add (a := 500) (b := 12) f).trans ?_
  rw [Finset.sum_eq_zero (s := Finset.univ) (f := fun i : Fin 12 => f (Fin.natAdd 500 i)) fun i _ => h _ (Nat.le_add_right _ _), add_zero]
  rfl

/-- The first layer's weights as the kernel keeps them: transposed, the padding zero. -/
theorem keep0 (W : FVec Ideal S500x1024 .f32) (d : Fin 1024) (k : Fin 512) :
    k0_pay52 (F := Ideal) W (ix2 d k) = if h : k.val < 500 then W (ix2 ⟨k.val, h⟩ d) else 0 := by
  pointwise [k0_pay52]
  simp

/-- The second layer's weights as the kernel keeps them: transposed, the padding zero. -/
theorem keep1 (W : FVec Ideal S500x500 .f32) (k o : Fin 512) :
    k0_pay53 (F := Ideal) W (ix2 k o) = if h : o.val < 500 then if h' : k.val < 500 then W (ix2 ⟨o.val, h⟩ ⟨k.val, h'⟩) else 0 else 0 := by
  pointwise [k0_pay53]
  simp

/-- An entry of a tile's two layers. -/
theorem tile_entry (X : FVec Ideal S1024x1024 .f32) (W0 : FVec Ideal S500x1024 .f32) (W1 : FVec Ideal S500x500 .f32) (r : Fin 1024)
    (o : Fin 500) :
    k0_pay54 (F := Ideal) X (k0_pay52 (F := Ideal) W0) (k0_pay53 (F := Ideal) W1) (ix2 r (wide o))
      = ∑ k : Fin 500, max (∑ d : Fin 1024, X (ix2 r d) * W0 (ix2 k d)) 0 * W1 (ix2 o k) := by
  pointwise [k0_pay54]
  refine (sum_wide _ fun k hk => ?_).trans (Finset.sum_congr rfl fun k _ => ?_)
  · rw [keep1, dif_pos o.isLt, dif_neg (by omega), mul_zero]
  · rw [keep1, dif_pos o.isLt, dif_pos k.isLt]
    simp only [keep0, dif_pos k.isLt]

/-- The tile that the kernel keeps is the two layers. -/
theorem keep_tile (X : FVec Ideal S1024x1024 .f32) (A : FVec Ideal S1024x512 .bf16) (B : FVec Ideal S512x512 .bf16) :
    k0_pay55 (F := Ideal) X A B = k0_pay54 X A B := by
  funext j
  obtain ⟨r, o, rfl⟩ : ∃ r o, j = ix2 (n0 := 1024) (n1 := 512) r o := ⟨j 0, j 1, eq_ix2 j⟩
  pointwise [k0_pay55]

/-- The maximum of a group of eight rows of the tile is at most `c` where each of the rows is. -/
theorem group_le (X : FVec Ideal S1024x1024 .f32) (A : FVec Ideal S1024x512 .bf16) (B : FVec Ideal S512x512 .bf16) (g : Fin 128)
    (o : Fin 512) (c : EReal) :
    k0_pay56 (F := Ideal) X A B (ix2 g o) ≤ c ↔ ∀ x : Fin 8, k0_pay54 (F := Ideal) X A B (ix2 ⟨8 * g.val + x.val, by omega⟩ o) ≤ c := by
  pointwise [k0_pay56]
  rw [Finset.fold_max_le, show Ideal.ofBits .f32 0xFF800000#32 = ⊥ by simp [Ideal.ofBits, Ideal.ieee]]
  simp only [bot_le, true_and, Finset.mem_univ, true_implies, Nat.mul_comm]

end Cert.KernelIdeal.Hand

end
-- ==== Proof.Laid.lean ====
/-
  A tile laid over the result, over the reals: each entry becomes its maximum with the tile's rows in its segment.
-/
module

public import proofs.«01_k».proof.Proof.Body
public import proofs.«01_k».proof.Proof.Rows
public import proofs.«01_k».proof.Proof.Layers

@[expose] public section

set_option maxRecDepth 16384

noncomputable section

namespace Cert.KernelIdeal.Hand

open Cert.KernelIdeal Cert.KernelIdeal.Gen
open Idealize.ShloMosaic Idealize.ShloMosaic.TcCoe

/-- Row `t` of a tile, by its number. -/
def rowOf (Y : S1024x512.Idx → EReal) (t : Nat) (o : Fin 512) : EReal := if h : t < 1024 then Y (ix2 ⟨t, h⟩ o) else ⊥

/-- A row below the tile's height. -/
theorem rowOf_lt (Y : S1024x512.Idx → EReal) {t : Nat} (h : t < 1024) (o : Fin 512) : rowOf Y t o = Y (ix2 ⟨t, h⟩ o) := dif_pos h

/-- A bound, cut to the tile, cuts the tile's rows where the bound itself does. -/
theorem loc_iff (i : grid0.Coords) (lo hi : BitVec 32) {t : Nat} (ht : t < 1024) :
    (loc i lo ≤ t ∧ t < loc i hi)
      ↔ lo.toInt ≤ 1024 * ((i 0).val : Int) + t ∧ 1024 * ((i 0).val : Int) + t < hi.toInt := by
  unfold loc; omega

/-- A row laid over the result, read at a row and a lane. -/
theorem overlay_row (X : S16x512.Idx → EReal) (s : Fin 16) (R : (rowRect s).shape.Idx → EReal) (s' : Fin 16) (o : Fin 512) :
    (rowRect s).overlay X R (ix2 s' o) = if s' = s then R (ix2 (n0 := 1) (n1 := 512) 0 o) else X (ix2 s' o) := by
  split
  · next h =>
    subst h
    have e : (rowRect s').emb (ix2 (n0 := 1) (n1 := 512) 0 o) = ix2 (n0 := 16) (n1 := 512) s' o := by
      funext a
      match a with
      | ⟨0, _⟩ => exact Fin.ext (show s'.val + 1 * 0 = s'.val by omega)
      | ⟨1, _⟩ => exact Fin.ext (show 0 + 1 * o.val = o.val by omega)
    rw [← e, Rect.overlay_emb]
  · next h =>
    refine Rect.overlay_of_not_mem _ _ _ fun hm => h ?_
    have := Rect.mem_set_unit.1 hm 0
    exact Fin.ext (by
      have h1 : s.val ≤ s'.val := this.1
      have h2 : s'.val < s.val + 1 := this.2
      omega)

section Tile

variable (i : grid0.Coords) (T : S17.Idx → Elt Ideal .i32) (hT : ∀ k, 0 ≤ (tword T k).toInt)
  (X0 : FVec Ideal S1024x1024 .f32) (A : FVec Ideal S1024x512 .bf16) (B : FVec Ideal S512x512 .bf16)

/-- Every row of the tile in segment `s` is at most `c` in lane `o`. -/
def TileLe (s : Fin 16) (o : Fin 512) (c : EReal) : Prop :=
  ∀ t : Fin 1024, (tword T s.castSucc).toInt ≤ 1024 * ((i 0).val : Int) + t.val → 1024 * ((i 0).val : Int) + t.val < (tword T s.succ).toInt →
    k0_pay54 (F := Ideal) X0 A B (ix2 t o) ≤ c

/-- One segment laid over the result. -/
theorem seg_le (s : Fin 16) (X : S16x512.Idx → EReal) (s' : Fin 16) (o : Fin 512) (c : EReal) :
    segAt (F := Ideal) i T (k0_pay55 (F := Ideal) X0 A B) hT (k0_pay56 (F := Ideal) X0 A B) (row0 i) k0_pay57 (iota .tc S8x1 32 [0] iota_S8x1_d0_w32) s X (ix2 s' o) ≤ c
      ↔ X (ix2 s' o) ≤ c ∧ (s' = s → TileLe i T X0 A B s o c) := by
  unfold segAt segUpd
  by_cases h : k0_cond2 i (tword T s.castSucc) (tword T s.succ) = 1#1
  · rw [dif_pos h]
    refine (iff_of_eq (congrArg (· ≤ c) (overlay_row _ _ _ _ _))).trans ?_
    by_cases hs : s' = s
    · subst hs
      rw [if_pos rfl]
      have hp := loc_hi_pos i h
      have hl := loc_lo_lt i h
      have hh := loc_le i (tword T s'.succ)
      refine (rowNew_le i (rowOf (k0_pay55 (F := Ideal) X0 A B)) _ _ _ _ (hT _) (hT _) hp o c (fun g => ?_) (fun x => ?_) (fun x => ?_)).trans
        (and_congr ?_ ?_)
      · rw [group_le, ← keep_tile]
        exact forall_congr' fun x => by rw [rowOf_lt]
      · rw [rowOf_lt _ (by omega)]
        refine View.ld_unit_apply_of _ _ _ _ _ _ fun a => ?_
        have e := congrFun (off1_eq i (hT s'.castSucc)) a
        match a, e with
        | ⟨0, _⟩, e => exact (congrArg (· + x.val) e).symm
        | ⟨1, _⟩, e => exact ((congrArg (· + o.val) e).trans (Nat.zero_add _)).symm
      · rw [rowOf_lt _ (by omega)]
        refine View.ld_unit_apply_of _ _ _ _ _ _ fun a => ?_
        have e := congrFun (off2_eq i (hT s'.succ) hp) a
        match a, e with
        | ⟨0, _⟩, e => exact (congrArg (· + x.val) e).symm
        | ⟨1, _⟩, e => exact ((congrArg (· + o.val) e).trans (Nat.zero_add _)).symm
      · refine iff_of_eq (congrArg (· ≤ c) (View.ld_unit_apply_of _ _ _ _ _ _ fun a => ?_))
        match a with
        | ⟨0, _⟩ => rfl
        | ⟨1, _⟩ => exact (Nat.zero_add _).symm
      · refine ⟨fun H _ t h1 h2 => ?_, fun H t h1 h2 => ?_⟩
        · have := (loc_iff i _ _ t.isLt).2 ⟨h1, h2⟩
          have := H t.val this.1 this.2
          rwa [rowOf_lt _ t.isLt, keep_tile] at this
        · have ht : t < 1024 := by omega
          have := (loc_iff i _ _ ht).1 ⟨h1, h2⟩
          rw [rowOf_lt _ ht, keep_tile]
          exact H rfl ⟨t, ht⟩ this.1 this.2
    · rw [if_neg hs]
      exact ⟨fun h => ⟨h, fun e => absurd e hs⟩, fun h => h.1⟩
  · rw [dif_neg h]
    refine ⟨fun hx => ⟨hx, fun _ t h1 h2 => absurd ((cond2_iff i).2 ⟨?_, ?_⟩) h⟩, fun h => h.1⟩ <;> omega

/-- Several segments laid over the result. -/
theorem segs_le (l : List (Fin 16)) (X : S16x512.Idx → EReal) (s : Fin 16) (o : Fin 512) (c : EReal) :
    tileAt (F := Ideal) i T hT X0 A B l X (ix2 s o) ≤ c ↔ X (ix2 s o) ≤ c ∧ (s ∈ l → TileLe i T X0 A B s o c) := by
  induction l generalizing X with
  | nil => exact ⟨fun h => ⟨h, fun h => absurd h (List.not_mem_nil)⟩, fun h => h.1⟩
  | cons a l ih =>
    refine (ih _).trans ((and_congr_left' (seg_le i T hT X0 A B a X s o c)).trans ?_)
    rw [List.mem_cons]
    constructor
    · rintro ⟨⟨h, h1⟩, h2⟩
      exact ⟨h, fun h3 => h3.elim (fun e => e ▸ h1 e) h2⟩
    · rintro ⟨h, h1⟩
      exact ⟨⟨h, fun e => e ▸ h1 (.inl e)⟩, fun h2 => h1 (.inr h2)⟩

/-- The tile laid over the result. -/
theorem tile_le (X : S16x512.Idx → EReal) (s : Fin 16) (o : Fin 512) (c : EReal) :
    tileAt (F := Ideal) i T hT X0 A B segs X (ix2 s o) ≤ c ↔ X (ix2 s o) ≤ c ∧ TileLe i T X0 A B s o c := by
  rw [segs_le, forall_prop_of_true ((by decide : ∀ s : Fin 16, s ∈ segs) s)]

end Tile

end Cert.KernelIdeal.Hand

end
-- ==== Proof.Total.lean ====
/-
  The kernel's result, over the reals: each entry is the maximum of the two layers over the rows of its segment.
-/
module

public import proofs.«01_k».proof.Proof.Run
public import proofs.«01_k».proof.Proof.Table
public import proofs.«01_k».proof.Proof.Blocks
public import proofs.«01_k».proof.Proof.Laid

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (hT : ∀ k, 0 ≤ (tword (tbl m) k).toInt) (c : Dev nD)

/-- Both layers, without their biases, at row `t` and output `o`. -/
def mlp (x : S16384x1024.Idx → EReal) (w0 : S500x1024.Idx → EReal) (w1 : S500x500.Idx → EReal) (t : Fin 16384) (o : Fin 500) : EReal :=
  ∑ k : Fin 500, max (∑ d : Fin 1024, x (ix2 t d) * w0 (ix2 k d)) 0 * w1 (ix2 o k)

/-- Both layers at the launch memory. -/
def out (t : Fin 16384) (o : Fin 500) : EReal :=
  mlp (m ((c : Thread nD τ).loc main_arg0)) (m ((c : Thread nD τ).loc main_arg2)) (m ((c : Thread nD τ).loc main_arg4)) t o

/-- Row `t` lies in segment `s`. -/
def inSeg (s : Fin 16) (t : Fin 16384) : Prop :=
  (tword (tbl m) s.castSucc).toInt ≤ (t.val : Int) ∧ (t.val : Int) < (tword (tbl m) s.succ).toInt

/-- A tile's entries are the layers at the tile's rows. -/
theorem tile_out (t : Fin grid0.N) (r : Fin 1024) (o : Fin 500) :
    k0_pay54 (F := Ideal) (blkOf m c 0 t) (wA m c) (wB m c) (ix2 r (wide o)) = out m c (rowAt t r) o := by
  unfold wA wB out mlp
  rw [blk_first, blk_second]
  refine (tile_entry (blkOf m c 0 t) _ _ r o).trans (Finset.sum_congr rfl fun k _ => ?_)
  exact congrArg (fun a => max a 0 * _) (Finset.sum_congr rfl fun d _ => congrArg (· * _) (blk_rows m c t r d))

/-- One tile laid over the result. -/
theorem step_le (t : Fin grid0.N) (X : S16x512.Idx → EReal) (s : Fin 16) (o : Fin 500) (e : EReal) :
    step m hT c t X (ix2 s (wide o)) ≤ e
      ↔ X (ix2 s (wide o)) ≤ e ∧ ∀ r : Fin 1024, inSeg m s (rowAt t r) → out m c (rowAt t r) o ≤ e := by
  refine (tile_le (grid0.coords t) (tbl m) hT (blkOf m c 0 t) (wA m c) (wB m c) X s (wide o) e).trans
    (and_congr_right' (forall_congr' fun r => ?_))
  rw [tile_out, coords_val]
  have hr : ((rowAt t r).val : Int) = 1024 * (t.val : Int) + r.val := by
    show ((1024 * t.val + r.val : Nat) : Int) = _
    push_cast; rfl
  unfold inSeg
  rw [hr, and_imp]

/-- The result after the first tiles: each entry is the maximum over the rows so far in its segment. -/
theorem accN_le (n : Nat) (h : n < grid0.N) (s : Fin 16) (o : Fin 500) (e : EReal) :
    accN m hT c n h (ix2 s (wide o)) ≤ e
      ↔ ∀ t : Fin 16384, t.val < 1024 * (n + 1) → inSeg m s t → out m c t o ≤ e := by
  induction n with
  | zero =>
    refine (step_le m hT c ⟨0, h⟩ _ s o e).trans ?_
    have hb : k0_pay51 (F := Ideal) (ix2 s (wide o)) ≤ e := (le_of_eq ofBits_bot).trans bot_le
    refine (and_iff_right hb).trans ⟨fun h1 t ht => ?_, fun h1 r => h1 _ ?_⟩
    · have ht' : t = rowAt ⟨0, h⟩ ⟨t.val, by omega⟩ := Fin.ext (by show t.val = 1024 * 0 + t.val; omega)
      rw [ht']; exact h1 _
    · show 1024 * 0 + r.val < 1024 * (0 + 1); omega
  | succ n ih =>
    refine (step_le m hT c ⟨n + 1, h⟩ _ s o e).trans ((and_congr_left' (ih (Nat.lt_of_succ_lt h))).trans ?_)
    refine ⟨fun ⟨h1, h2⟩ t ht => ?_, fun h1 => ⟨fun t ht => h1 t (by omega), fun r => h1 _ ?_⟩⟩
    · by_cases hn : t.val < 1024 * (n + 1)
      · exact h1 t hn
      · have ht' : t = rowAt ⟨n + 1, h⟩ ⟨t.val - 1024 * (n + 1), by omega⟩ :=
          Fin.ext (by show t.val = 1024 * (n + 1) + (t.val - 1024 * (n + 1)); omega)
        rw [ht']; exact h2 _
    · show 1024 * (n + 1) + r.val < 1024 * (n + 1 + 1); omega

/-- The result after the last tile: each entry is the maximum over all the rows of its segment. -/
theorem total_le (s : Fin 16) (o : Fin 500) (e : EReal) :
    total m hT c (ix2 s (wide o)) ≤ e ↔ ∀ t : Fin 16384, inSeg m s t → out m c t o ≤ e :=
  (accN_le m hT c 15 _ s o e).trans (forall_congr' fun t => forall_prop_of_true t.isLt)

/-- The kernel's result, cut to the outputs. -/
theorem result_le (s : Fin 16) (o : Fin 500) (e : EReal) :
    extractStridedSlice S16x500 ![0, 0] (total m hT c) slices_S16x512_S16x500_0_0 (ix2 s o) ≤ e
      ↔ ∀ t : Fin 16384, inSeg m s t → out m c t o ≤ e := by
  have h : extractStridedSlice S16x500 ![0, 0] (total m hT c) slices_S16x512_S16x500_0_0 (ix2 s o) = total m hT c (ix2 s (wide o)) :=
    congrArg (total m hT c) (funext fun a => match a with
      | ⟨0, _⟩ => Fin.ext (Nat.zero_add s.val)
      | ⟨1, _⟩ => Fin.ext (Nat.zero_add o.val))
  rw [h, total_le]

end Cert.KernelIdeal.Hand

end
-- ==== Proof.Counting.lean ====
/-
  A sorted list of seventeen bounds, and how many of them a number reaches: the number lies in segment `s` exactly
  where it reaches `s + 1` of them.
-/
module

public import Mathlib.Order.Interval.Finset.Fin
public import Mathlib.Order.Fin.Basic

@[expose] public section

namespace Cert.Counting

variable (f : Fin 17 → Int) (hf : ∀ s : Fin 16, f s.castSucc ≤ f s.succ) (t : Int) (s : Fin 16)

/-- How many of the bounds `t` reaches. -/
def reached : Nat := (Finset.univ.filter fun q => f q ≤ t).card

/-- There are seventeen bounds. -/
theorem reached_le : reached f t ≤ 17 := (Finset.card_le_univ _).trans (Fintype.card_fin 17).le

include hf

/-- `t` lies in segment `s` exactly where it reaches `s + 1` of the bounds. -/
theorem reached_iff : reached f t = s.val + 1 ↔ f s.castSucc ≤ t ∧ t < f s.succ := by
  have mono : Monotone f := Fin.monotone_iff_le_succ.2 hf
  unfold reached
  constructor
  · intro h
    constructor
    · by_contra hc
      have hsub : (Finset.univ.filter fun q => f q ≤ t) ⊆ Finset.Iio s.castSucc := fun q hq => by
        rw [Finset.mem_Iio]
        by_contra hq'
        exact hc ((mono (not_lt.1 hq')).trans (Finset.mem_filter.1 hq).2)
      have hcard := Finset.card_le_card hsub
      rw [Fin.card_Iio, h, Fin.val_castSucc] at hcard
      omega
    · by_contra hc
      have hsub : Finset.Iic s.succ ⊆ Finset.univ.filter fun q => f q ≤ t := fun q hq =>
        Finset.mem_filter.2 ⟨Finset.mem_univ _, (mono (Finset.mem_Iic.1 hq)).trans (not_lt.1 hc)⟩
      have hcard := Finset.card_le_card hsub
      rw [Fin.card_Iic, h, Fin.val_succ] at hcard
      omega
  · rintro ⟨h0, h1⟩
    have hset : (Finset.univ.filter fun q => f q ≤ t) = Finset.Iic s.castSucc := by
      ext q
      rw [Finset.mem_filter, Finset.mem_Iic, and_iff_right (Finset.mem_univ _)]
      refine ⟨fun hq => ?_, fun hq => (mono hq).trans h0⟩
      by_contra hq'
      have : s.succ ≤ q := Fin.castSucc_lt_iff_succ_le.1 (not_le.1 hq')
      exact absurd ((mono this).trans hq) (not_le.2 h1)
    rw [hset, Fin.card_Iic, Fin.val_castSucc]

end Cert.Counting

end
-- ==== Proof.Reference.lean ====
/-
  The reference's result, over the reals: each entry is the maximum, over the rows of its segment, of the two layers.
-/
module

public import proofs.«01_k».proof.Proof.Gen.ReferenceIdeal.Run
public import proofs.«01_k».proof.Proof.Counting
public import proofs.«01_k».proof.Proof.Rows
public import Idealize.ShloMosaic.Lib.Pipeline.ValueKit
public import Idealize.ShloMosaic.Lib.StableHlo.Predicate

@[expose] public section

set_option maxRecDepth 16384

noncomputable section

namespace Cert.ReferenceIdeal.Hand

open Cert.ReferenceIdeal Cert.ReferenceIdeal.Gen
open Idealize.ShloMosaic Idealize.ShloMosaic.TcCoe
open Cert.KernelIdeal.Hand (masked_le toInt_of)
open Cert.Counting (reached reached_le reached_iff)

/-! ## The segment of a row -/

section Segment

/-- One less than a count is the word of segment `s`, and in range, where the count is `s + 1`. -/
theorem seg_word (w : BitVec 32) (hw : w.toNat ≤ 17) (s : Fin 16) :
    ((0#32).toInt ≤ (w - 1#32).toInt ∧ (w - 1#32).toInt < (16#32).toInt) ∧ w - 1#32 = BitVec.ofNat 32 s.val
      ↔ w.toNat = s.val + 1 := by
  have h : ∀ n : Fin 18, ∀ s : Fin 16, ((0#32).toInt ≤ (BitVec.ofNat 32 n.val - 1#32).toInt
      ∧ (BitVec.ofNat 32 n.val - 1#32).toInt < (16#32).toInt) ∧ BitVec.ofNat 32 n.val - 1#32 = BitVec.ofNat 32 s.val
      ↔ (BitVec.ofNat 32 n.val).toNat = s.val + 1 := by decide +kernel
  have e : BitVec.ofNat 32 w.toNat = w := by simp
  have hn := h ⟨w.toNat, by omega⟩ s
  rwa [e] at hn

variable (p : IVec S17 32)

/-- For each row and bound, whether the row reaches the bound. -/
def reaches : IVec S16384x17 1 :=
  cmpi .sle (broadcastInDim S16384x17 ![0, 1] bcast_S1x17_S16384x17_0_1 (broadcastInDim S1x17 ![1] bcast_S17_S1x17_1 p))
    (broadcastInDim S16384x17 ![0, 1] bcast_S16384x1_S16384x17_0_1 (broadcastInDim S16384x1 ![0] bcast_S16384_S16384x1_0 (iotaInDim S16384 32 0)))

/-- How many bounds each row reaches. -/
def counts : IVec S16384 32 :=
  Host.reduce IntOp.addi (extui 32 (reaches p) natLt_1_32) (constantI S_ 32 0#32) reducesTo_S16384x17_S16384_d1 h_S_

/-- Each row's segment: one less than the number of bounds it reaches. -/
def ids : IVec S16384 32 := subi (counts p) (broadcastInDim S16384 ![] bcast_S_S16384 (constantI S_ 32 1#32))

/-- For each row, whether its segment is one of the sixteen. -/
def proper : IVec S16384 1 :=
  andi (cmpi .sge (ids p) (broadcastInDim S16384 ![] bcast_S_S16384 (constantI S_ 32 0#32)))
    (cmpi .slt (ids p) (broadcastInDim S16384 ![] bcast_S_S16384 (constantI S_ 32 16#32)))

/-- For each segment and row, whether the row is in the segment. -/
def mask : IVec S16x16384 1 :=
  andi (broadcastInDim S16x16384 ![0, 1] bcast_S1x16384_S16x16384_0_1 (broadcastInDim S1x16384 ![1] bcast_S16384_S1x16384_1 (proper p)))
    (cmpi .eq (broadcastInDim S16x16384 ![0, 1] bcast_S1x16384_S16x16384_0_1 (broadcastInDim S1x16384 ![1] bcast_S16384_S1x16384_1 (ids p)))
      (broadcastInDim S16x16384 ![0, 1] bcast_S16x1_S16x16384_0_1 (broadcastInDim S16x1 ![0] bcast_S16_S16x1_0 (iotaInDim S16 32 0))))

/-- A row reaches a bound. -/
theorem reaches_iff (t : Fin 16384) (q : Fin 17) :
    reaches p (StableHlo.Predicate.ij t q) = 1#1 ↔ (p (ix1 q)).toInt ≤ t.val := by
  have e : reaches p (StableHlo.Predicate.ij t q) = IntOp.cmpi .sle (p (ix1 q)) (BitVec.ofNat 32 t.val) := by
    show reaches p (ix2 t q) = _
    pointwise [reaches]
  rw [e, IntOp.cmpi_sle, toInt_of (Affine.ofNat t.val (e := (t.val : Nat)) (by omega))]

/-- The number of bounds that a row reaches. -/
theorem counts_toNat (t : Fin 16384) :
    (counts p (ix1 t)).toNat = reached (fun q => (p (ix1 q)).toInt) t.val := by
  unfold counts reached
  refine (StableHlo.Predicate.toNat_reduce_count_cols (by norm_num) (reaches p) natLt_1_32 reducesTo_S16384x17_S16384_d1 h_S_ (ix1 t)).trans ?_
  refine congrArg Finset.card (Finset.filter_congr fun q _ => reaches_iff p t q)

variable (hp : ∀ s : Fin 16, (p (ix1 s.castSucc)).toInt ≤ (p (ix1 s.succ)).toInt)

include hp in
/-- A row is in a segment where it lies between the segment's bounds. -/
theorem mask_iff (s : Fin 16) (t : Fin 16384) :
    mask p (ix2 s t) = 1#1 ↔ (p (ix1 s.castSucc)).toInt ≤ t.val ∧ (t.val : Int) < (p (ix1 s.succ)).toInt := by
  rw [← reached_iff (fun q => (p (ix1 q)).toInt) hp]
  have h17 := reached_le (fun q => (p (ix1 q)).toInt) t.val
  rw [← counts_toNat] at h17 ⊢
  have e : mask p (ix2 s t) = IntOp.andi (IntOp.andi (IntOp.cmpi .sge (ids p (ix1 t)) 0#32) (IntOp.cmpi .slt (ids p (ix1 t)) 16#32))
      (IntOp.cmpi .eq (ids p (ix1 t)) (BitVec.ofNat 32 s.val)) := by
    pointwise [mask, proper]
  have ei : ids p (ix1 t) = counts p (ix1 t) - 1#32 := by
    pointwise [ids]
    rfl
  rw [e, ei, IntOp.andi_eq_one, IntOp.andi_eq_one, IntOp.cmpi_sge, IntOp.cmpi_slt, StableHlo.Predicate.cmpi_eq_iff]
  generalize counts p (ix1 t) = w at h17 ⊢
  exact seg_word w h17 s

end Segment

/-! ## The layers -/

section Layers

variable (x : FVec Ideal S16384x1024 .f32) (w0 : FVec Ideal S500x1024 .f32) (b0 : FVec Ideal S500 .f32)
  (w1 : FVec Ideal S500x500 .f32) (b1 : FVec Ideal S500 .f32)

/-- The two layers. -/
def logits : FVec Ideal S16384x500 .f32 :=
  addf (Host.dotGeneral dot_S16384x500_S500x500_S16384x500_1_0_0_1_n_n none (maximumf (addf (Host.dotGeneral dot_S16384x1024_S1024x500_S16384x500_1_0_0_1_n_n none x (transpose S1024x500 [1, 0] w0 transposes_S500x1024_S1024x500_1_0)) (broadcastInDim S16384x500 ![0, 1] bcast_S1x500_S16384x500_0_1 (broadcastInDim S1x500 ![1] bcast_S500_S1x500_1 b0))) (broadcastInDim S16384x500 ![] bcast_S_S16384x500 (constant S_ .f32 0x00000000#32))) (transpose S500x500 [1, 0] w1 transposes_S500x500_S500x500_1_0)) (broadcastInDim S16384x500 ![0, 1] bcast_S1x500_S16384x500_0_1 (broadcastInDim S1x500 ![1] bcast_S500_S1x500_1 b1))

/-- The two layers where both biases are zero. -/
theorem logits_apply (h0 : ∀ i, b0 i = 0) (h1 : ∀ i, b1 i = 0) (t : Fin 16384) (o : Fin 500) :
    logits x w0 b0 w1 b1 (ix2 t o)
      = ∑ k : Fin 500, max (∑ d : Fin 1024, x (ix2 t d) * w0 (ix2 k d)) 0 * w1 (ix2 o k) := by
  pointwise [logits]
  simp only [h0, h1, add_zero]

end Layers

/-! ## The maxima -/

section Maxima

variable (b : IVec S16x16384 1) (y : FVec Ideal S16384x500 .f32)

/-- The maximum of the rows that a mask selects, for each segment and output. -/
def maxima : FVec Ideal S16x500 .f32 :=
  Host.reduce FloatOps.maximumf (select (broadcastInDim S16x16384x500 ![0, 1, 2] bcast_S16x16384x1_S16x16384x500_0_1_2 (broadcastInDim S16x16384x1 ![0, 1] bcast_S16x16384_S16x16384x1_0_1 b)) (broadcastInDim S16x16384x500 ![0, 1, 2] bcast_S1x16384x500_S16x16384x500_0_1_2 (broadcastInDim S1x16384x500 ![1, 2] bcast_S16384x500_S1x16384x500_1_2 y)) (broadcastInDim S16x16384x500 ![] bcast_S_S16x16384x500 (id (constant S_ .f32 0xFF800000#32)))) (constant S_ .f32 0xFF800000#32) reducesTo_S16x16384x500_S16x500_d1 h_S_

/-- The maximum is at most `c` where each selected row is. -/
theorem maxima_le (s : Fin 16) (o : Fin 500) (c : EReal) :
    maxima b y (ix2 s o) ≤ c ↔ ∀ t : Fin 16384, b (ix2 s t) = 1#1 → y (ix2 t o) ≤ c := by
  pointwise [maxima]
  exact masked_le (fun t => b (ix2 s t)) (fun t => y (ix2 t o)) c

end Maxima

/-- The reference's result where the bounds are sorted and both biases are zero. -/
theorem result_le (x : FVec Ideal S16384x1024 .f32) (p : IVec S17 32) (w0 : FVec Ideal S500x1024 .f32) (b0 : FVec Ideal S500 .f32)
    (w1 : FVec Ideal S500x500 .f32) (b1 : FVec Ideal S500 .f32)
    (hp : ∀ s : Fin 16, (p (ix1 s.castSucc)).toInt ≤ (p (ix1 s.succ)).toInt) (h0 : ∀ i, b0 i = 0) (h1 : ∀ i, b1 i = 0)
    (s : Fin 16) (o : Fin 500) (c : EReal) :
    maxima (mask p) (logits x w0 b0 w1 b1) (ix2 s o) ≤ c
      ↔ ∀ t : Fin 16384, (p (ix1 s.castSucc)).toInt ≤ t.val ∧ (t.val : Int) < (p (ix1 s.succ)).toInt →
        ∑ k : Fin 500, max (∑ d : Fin 1024, x (ix2 t d) * w0 (ix2 k d)) 0 * w1 (ix2 o k) ≤ c := by
  rw [maxima_le]
  refine forall_congr' fun t => ?_
  rw [mask_iff p hp, logits_apply x w0 b0 w1 b1 h0 h1]

end Cert.ReferenceIdeal.Hand

end
-- ==== Proof.Compare.lean ====
/-
  The two results are one: the kernel's and the reference's entries have the same upper bounds.
-/
module

public import proofs.«01_k».proof.Proof.Total
public import proofs.«01_k».proof.Proof.Reference

@[expose] public section

noncomputable section

namespace Cert.Compare

open Idealize.ShloMosaic Idealize.ShloMosaic.TcCoe
open Cert.KernelIdeal.Hand (tword tbl tword_eq tbl_eq total out mlp inSeg)
open Cert.ReferenceIdeal.Hand (maxima mask logits)

variable (m : (ℓ : Loc Cert.KernelIdeal.nD Cert.KernelIdeal.τ Cert.KernelIdeal.sig) → Buf (Elt Ideal) ℓ)
  (hT : ∀ k, 0 ≤ (tword (tbl m) k).toInt)

/-- Core 0 of the only device. -/
abbrev thr : Thread Cert.KernelIdeal.nD Cert.KernelIdeal.τ := (0 : Dev Cert.KernelIdeal.nD)

/-- Where the bounds are sorted and both biases are zero, the kernel's result is the reference's. -/
theorem results_eq
    (hp : ∀ s : Fin 16, BitVec.toInt (n := 32) (m (thr.loc Cert.KernelIdeal.main_arg1) (ix1 s.castSucc))
      ≤ BitVec.toInt (n := 32) (m (thr.loc Cert.KernelIdeal.main_arg1) (ix1 s.succ)))
    (h0 : ∀ i : Cert.KernelIdeal.S500.Idx, m (thr.loc Cert.KernelIdeal.main_arg3) i = (0 : EReal))
    (h1 : ∀ i : Cert.KernelIdeal.S500.Idx, m (thr.loc Cert.KernelIdeal.main_arg5) i = (0 : EReal)) :
    extractStridedSlice Cert.KernelIdeal.S16x500 ![0, 0] (total m hT 0) Cert.KernelIdeal.Gen.slices_S16x512_S16x500_0_0
      = maxima (mask (m (thr.loc Cert.KernelIdeal.main_arg1)))
          (logits (m (thr.loc Cert.KernelIdeal.main_arg0)) (m (thr.loc Cert.KernelIdeal.main_arg2)) (m (thr.loc Cert.KernelIdeal.main_arg3))
            (m (thr.loc Cert.KernelIdeal.main_arg4)) (m (thr.loc Cert.KernelIdeal.main_arg5))) := by
  funext j
  obtain ⟨s, o, rfl⟩ : ∃ s o, j = ix2 (n0 := 16) (n1 := 500) s o := ⟨j 0, j 1, eq_ix2 j⟩
  refine eq_of_forall_ge_iff fun e => ?_
  refine (Cert.KernelIdeal.Hand.result_le m hT 0 s o e).trans
    (Iff.trans ?_ (Cert.ReferenceIdeal.Hand.result_le _ _ _ _ _ _ hp h0 h1 s o e).symm)
  refine forall_congr' fun t => ?_
  unfold inSeg out mlp
  rw [tword_eq, tword_eq, tbl_eq]

end Cert.Compare

end
-- ==== Proof.lean ====
/-
  The certificate: each claim from the run of the kernel, the run of the reference and the comparison of the two.
-/
module

public import proofs.«01_k».proof.Defs
public import proofs.«01_k».proof.Proof.Transport
public import proofs.«01_k».proof.Proof.Table
public import proofs.«01_k».proof.Proof.Offsets
public import proofs.«01_k».proof.Proof.Biases
public import proofs.«01_k».proof.Proof.Compare
public import Idealize.ShloMosaic.Lib.Quiescent

@[expose] public section

noncomputable section

namespace Cert.Proof

open Idealize.ShloMosaic Idealize.ShloMosaic.TcCoe Idealize.SL.Sem
open Cert.KernelIdeal.Hand (tword tbl tword_eq run_args)

/-- Where no offset is negative no word of the table is. -/
theorem table_nonneg {F : FTy → Type} [FloatOps F]
    (m : (ℓ : Loc Cert.KernelIdeal.nD Cert.KernelIdeal.τ Cert.KernelIdeal.sig) → Buf (Elt F) ℓ)
    (h : ∀ i : Cert.KernelIdeal.S17.Idx, 0 ≤ BitVec.toInt (n := 32)
      (m ((Dev.tc (τ := Cert.KernelIdeal.τ) (0 : Dev Cert.KernelIdeal.nD)).loc Cert.KernelIdeal.main_arg1) i))
    (k : Fin 17) : 0 ≤ (tword (tbl m) k).toInt := by
  rw [tword_eq]
  exact h (ix1 k)

/-- The printed kernel runs and leaves its arguments as they were. -/
theorem quiescent_kernel : @Cert.quiescent_Kernel Cert.Kernel.Gen.facts Cert.Pre_offsets.Gen.facts := fun m g h =>
  Cert.Transport.run_of_ideal ((θ_run _ _ _).mono (fun _ r => ⟨fun c => (r.1 c).2, r.2⟩)
    (run_args (F := Bits) m (table_nonneg m (Cert.Offsets.nonneg_of_offsets _ _ _ _ _ _ (h 0))) g))

/-- The idealized kernel runs and leaves its arguments as they were. -/
theorem quiescent_kernelIdeal : @Cert.quiescent_KernelIdeal Cert.KernelIdeal.Gen.facts Cert.Pre_offsets.Gen.facts := fun m g h =>
  (θ_run _ _ _).mono (fun _ r => ⟨fun c => (r.1 c).2, r.2⟩)
    (run_args (F := Ideal) m (table_nonneg m (Cert.Offsets.nonneg_of_offsets _ _ _ _ _ _ (h 0))) g)

/-- The reference runs and leaves its arguments as they were; it has no semaphores. -/
theorem quiescent_referenceIdeal : @Cert.quiescent_ReferenceIdeal Cert.ReferenceIdeal.Gen.facts := fun m g _ =>
  (θ_run Cert.ReferenceIdeal.defs _ _).mono (fun r h => ⟨fun c => (h c).2, sem_eq_zero_of_no_sems (by decide) r.2⟩)
    (Cert.ReferenceIdeal.Value.run (F := Ideal) m g)

/-- Where `pre` holds, the idealized kernel runs and leaves its arguments as they were. -/
theorem quiescent_kernelIdeal_pre : @Cert.quiescent_KernelIdeal_pre_pre Cert.KernelIdeal.Gen.facts Cert.Pre_pre.Gen.facts := fun m g h =>
  (θ_run _ _ _).mono (fun _ r => ⟨fun c => (r.1 c).2, r.2⟩)
    (run_args (F := Ideal) m (table_nonneg m (Cert.Sorted.nonneg_of_pre _ _ _ _ _ _ (h 0))) g)

/-- Where `pre` holds, the reference runs and leaves its arguments as they were. -/
theorem quiescent_referenceIdeal_pre : @Cert.quiescent_ReferenceIdeal_pre_pre Cert.ReferenceIdeal.Gen.facts Cert.Pre_pre.Gen.facts :=
  fun m g _ => quiescent_referenceIdeal m g trivial

/-- Where `pre` holds, the kernel and the reference leave the same result. -/
theorem algebraic : @Cert.algebraic_KernelIdeal_ReferenceIdeal_pre_pre Cert.KernelIdeal.Gen.facts Cert.ReferenceIdeal.Gen.facts
    Cert.Pre_pre.Gen.facts := by
  intro m g m' g' h hargs
  have hT := table_nonneg m (Cert.Sorted.nonneg_of_pre _ _ _ _ _ _ (h 0))
  have hb := Cert.Sorted.biases_of_pre _ _ _ _ _ _ (h 0)
  refine ⟨_, (θ_run _ _ _).mono (fun _ r => r.1) (run_args (F := Ideal) m hT g), ?_⟩
  refine (θ_run Cert.ReferenceIdeal.defs _ _).mono (fun r hr c => ⟨(hr c).1.trans ?_, (hr c).2⟩)
    (Cert.ReferenceIdeal.Value.run (F := Ideal) m' g')
  obtain ⟨e0, e1, e2, e3, e4, e5⟩ := hargs c
  rw [e0, e1, e2, e3, e4, e5]
  obtain rfl : c = 0 := Subsingleton.elim _ _
  exact (Cert.Compare.results_eq m hT (Cert.Sorted.le_next_of_pre _ _ _ _ _ _ (h 0)) hb.1 hb.2).symm

/-- Every claim of the certificate. -/
theorem claim : Cert.Claim := ⟨Cert.Kernel.Gen.facts, Cert.KernelIdeal.Gen.facts, Cert.ReferenceIdeal.Gen.facts,
  Cert.Pre_offsets.Gen.facts, Cert.Pre_pre.Gen.facts,
  quiescent_kernel, quiescent_kernelIdeal, quiescent_kernelIdeal_pre, quiescent_referenceIdeal, quiescent_referenceIdeal_pre,
  trivial, algebraic⟩

end Cert.Proof

end
